-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S256x256 : Shape := ⟨2, ![256, 256]⟩
abbrev S32x8x512 : Shape := ⟨3, ![32, 8, 512]⟩
abbrev S32 : Shape := ⟨1, ![32]⟩
abbrev S_ : Shape := ⟨0, ![]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x8x512 : Shape := ⟨3, ![1, 8, 512]⟩
abbrev S8x512 : Shape := ⟨2, ![8, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S256x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S256x512, .f32⟩
  | .local _ .vmem, ⟨6, _⟩ => ⟨S256x256, .bf16⟩
  | .local _ .vmem, ⟨7, _⟩ => ⟨S256x256, .bf16⟩
  | .local _ .vmem, ⟨8, _⟩ => ⟨S256x512, .f32⟩
  | .local _ .vmem, ⟨9, _⟩ => ⟨S32x8x512, .f32⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_dev16 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 32 := Scalar.xori v2 c16_i32
  let c1_i32_46 : BitVec 32 := 1#32
  let v50 : BitVec 32 := Scalar.muli v49 c1_i32_46
  let v51 : BitVec 32 := Scalar.addi c0_i32_47 v50
  v51.toNat
def k0_dev17 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 32 := Scalar.xori v2 c17_i32
  let c1_i32_49 : BitVec 32 := 1#32
  let v53 : BitVec 32 := Scalar.muli v52 c1_i32_49
  let v54 : BitVec 32 := Scalar.addi c0_i32_50 v53
  v54.toNat
def k0_dev18 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 32 := Scalar.xori v2 c18_i32
  let c1_i32_52 : BitVec 32 := 1#32
  let v56 : BitVec 32 := Scalar.muli v55 c1_i32_52
  let v57 : BitVec 32 := Scalar.addi c0_i32_53 v56
  v57.toNat
def k0_dev19 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 32 := Scalar.xori v2 c19_i32
  let c1_i32_55 : BitVec 32 := 1#32
  let v59 : BitVec 32 := Scalar.muli v58 c1_i32_55
  let v60 : BitVec 32 := Scalar.addi c0_i32_56 v59
  v60.toNat
def k0_dev20 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 32 := Scalar.xori v2 c20_i32
  let c1_i32_58 : BitVec 32 := 1#32
  let v62 : BitVec 32 := Scalar.muli v61 c1_i32_58
  let v63 : BitVec 32 := Scalar.addi c0_i32_59 v62
  v63.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 32 := Scalar.xori v2 c21_i32
  let c1_i32_61 : BitVec 32 := 1#32
  let v65 : BitVec 32 := Scalar.muli v64 c1_i32_61
  let v66 : BitVec 32 := Scalar.addi c0_i32_62 v65
  v66.toNat
def k0_dev22 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.xori v2 c22_i32
  let c1_i32_64 : BitVec 32 := 1#32
  let v68 : BitVec 32 := Scalar.muli v67 c1_i32_64
  let v69 : BitVec 32 := Scalar.addi c0_i32_65 v68
  v69.toNat
def k0_dev23 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 32 := Scalar.xori v2 c23_i32
  let c1_i32_67 : BitVec 32 := 1#32
  let v71 : BitVec 32 := Scalar.muli v70 c1_i32_67
  let v72 : BitVec 32 := Scalar.addi c0_i32_68 v71
  v72.toNat
def k0_dev24 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 32 := Scalar.xori v2 c24_i32
  let c1_i32_70 : BitVec 32 := 1#32
  let v74 : BitVec 32 := Scalar.muli v73 c1_i32_70
  let v75 : BitVec 32 := Scalar.addi c0_i32_71 v74
  v75.toNat
def k0_dev25 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.xori v2 c25_i32
  let c1_i32_73 : BitVec 32 := 1#32
  let v77 : BitVec 32 := Scalar.muli v76 c1_i32_73
  let v78 : BitVec 32 := Scalar.addi c0_i32_74 v77
  v78.toNat
def k0_dev26 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 32 := Scalar.xori v2 c26_i32
  let c1_i32_76 : BitVec 32 := 1#32
  let v80 : BitVec 32 := Scalar.muli v79 c1_i32_76
  let v81 : BitVec 32 := Scalar.addi c0_i32_77 v80
  v81.toNat
def k0_dev27 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 32 := Scalar.xori v2 c27_i32
  let c1_i32_79 : BitVec 32 := 1#32
  let v83 : BitVec 32 := Scalar.muli v82 c1_i32_79
  let v84 : BitVec 32 := Scalar.addi c0_i32_80 v83
  v84.toNat
def k0_dev28 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 32 := Scalar.xori v2 c28_i32
  let c1_i32_82 : BitVec 32 := 1#32
  let v86 : BitVec 32 := Scalar.muli v85 c1_i32_82
  let v87 : BitVec 32 := Scalar.addi c0_i32_83 v86
  v87.toNat
def k0_dev29 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 32 := Scalar.xori v2 c29_i32
  let c1_i32_85 : BitVec 32 := 1#32
  let v89 : BitVec 32 := Scalar.muli v88 c1_i32_85
  let v90 : BitVec 32 := Scalar.addi c0_i32_86 v89
  v90.toNat
def k0_dev30 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 32 := Scalar.xori v2 c30_i32
  let c1_i32_88 : BitVec 32 := 1#32
  let v92 : BitVec 32 := Scalar.muli v91 c1_i32_88
  let v93 : BitVec 32 := Scalar.addi c0_i32_89 v92
  v93.toNat
def k0_dev31 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 32 := Scalar.xori v2 c31_i32
  let c1_i32_91 : BitVec 32 := 1#32
  let v95 : BitVec 32 := Scalar.muli v94 c1_i32_91
  let v96 : BitVec 32 := Scalar.addi c0_i32_92 v95
  v96.toNat
def k0_off1 (d0 : Dev nD) (c1_i32_237 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v298 : BitVec 32 := Scalar.xori v2 c1_i32_237
  let c8_i32_238 : BitVec 32 := 8#32
  let v299 : BitVec 32 := Scalar.muli v298 c8_i32_238
  let c0_i32_246 : BitVec 32 := 0#32
  ![v299.toNat, 0]
def k0_dev32 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_237 : BitVec 32 := 1#32
  let v298 : BitVec 32 := Scalar.xori v2 c1_i32_237
  let c1_i32_242 : BitVec 32 := 1#32
  let v300 : BitVec 32 := Scalar.muli v298 c1_i32_242
  let v301 : BitVec 32 := Scalar.addi c0_i32_243 v300
  v301.toNat
def k0_dev33 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_247 : BitVec 32 := 2#32
  let v309 : BitVec 32 := Scalar.xori v2 c2_i32_247
  let c1_i32_252 : BitVec 32 := 1#32
  let v311 : BitVec 32 := Scalar.muli v309 c1_i32_252
  let v312 : BitVec 32 := Scalar.addi c0_i32_253 v311
  v312.toNat
def k0_dev34 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_257 : BitVec 32 := 3#32
  let v320 : BitVec 32 := Scalar.xori v2 c3_i32_257
  let c1_i32_262 : BitVec 32 := 1#32
  let v322 : BitVec 32 := Scalar.muli v320 c1_i32_262
  let v323 : BitVec 32 := Scalar.addi c0_i32_263 v322
  v323.toNat
def k0_dev35 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_267 : BitVec 32 := 4#32
  let v331 : BitVec 32 := Scalar.xori v2 c4_i32_267
  let c1_i32_272 : BitVec 32 := 1#32
  let v333 : BitVec 32 := Scalar.muli v331 c1_i32_272
  let v334 : BitVec 32 := Scalar.addi c0_i32_273 v333
  v334.toNat
def k0_dev36 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_277 : BitVec 32 := 5#32
  let v342 : BitVec 32 := Scalar.xori v2 c5_i32_277
  let c1_i32_282 : BitVec 32 := 1#32
  let v344 : BitVec 32 := Scalar.muli v342 c1_i32_282
  let v345 : BitVec 32 := Scalar.addi c0_i32_283 v344
  v345.toNat
def k0_dev37 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_287 : BitVec 32 := 6#32
  let v353 : BitVec 32 := Scalar.xori v2 c6_i32_287
  let c1_i32_292 : BitVec 32 := 1#32
  let v355 : BitVec 32 := Scalar.muli v353 c1_i32_292
  let v356 : BitVec 32 := Scalar.addi c0_i32_293 v355
  v356.toNat
def k0_dev38 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_297 : BitVec 32 := 7#32
  let v364 : BitVec 32 := Scalar.xori v2 c7_i32_297
  let c1_i32_302 : BitVec 32 := 1#32
  let v366 : BitVec 32 := Scalar.muli v364 c1_i32_302
  let v367 : BitVec 32 := Scalar.addi c0_i32_303 v366
  v367.toNat
def k0_dev39 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_307 : BitVec 32 := 8#32
  let v375 : BitVec 32 := Scalar.xori v2 c8_i32_307
  let c1_i32_312 : BitVec 32 := 1#32
  let v377 : BitVec 32 := Scalar.muli v375 c1_i32_312
  let v378 : BitVec 32 := Scalar.addi c0_i32_313 v377
  v378.toNat
def k0_dev40 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_317 : BitVec 32 := 9#32
  let v386 : BitVec 32 := Scalar.xori v2 c9_i32_317
  let c1_i32_322 : BitVec 32 := 1#32
  let v388 : BitVec 32 := Scalar.muli v386 c1_i32_322
  let v389 : BitVec 32 := Scalar.addi c0_i32_323 v388
  v389.toNat
def k0_dev41 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_327 : BitVec 32 := 10#32
  let v397 : BitVec 32 := Scalar.xori v2 c10_i32_327
  let c1_i32_332 : BitVec 32 := 1#32
  let v399 : BitVec 32 := Scalar.muli v397 c1_i32_332
  let v400 : BitVec 32 := Scalar.addi c0_i32_333 v399
  v400.toNat
def k0_dev42 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_337 : BitVec 32 := 11#32
  let v408 : BitVec 32 := Scalar.xori v2 c11_i32_337
  let c1_i32_342 : BitVec 32 := 1#32
  let v410 : BitVec 32 := Scalar.muli v408 c1_i32_342
  let v411 : BitVec 32 := Scalar.addi c0_i32_343 v410
  v411.toNat
def k0_dev43 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_347 : BitVec 32 := 12#32
  let v419 : BitVec 32 := Scalar.xori v2 c12_i32_347
  let c1_i32_352 : BitVec 32 := 1#32
  let v421 : BitVec 32 := Scalar.muli v419 c1_i32_352
  let v422 : BitVec 32 := Scalar.addi c0_i32_353 v421
  v422.toNat
def k0_dev44 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_357 : BitVec 32 := 13#32
  let v430 : BitVec 32 := Scalar.xori v2 c13_i32_357
  let c1_i32_362 : BitVec 32 := 1#32
  let v432 : BitVec 32 := Scalar.muli v430 c1_i32_362
  let v433 : BitVec 32 := Scalar.addi c0_i32_363 v432
  v433.toNat
def k0_dev45 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_367 : BitVec 32 := 14#32
  let v441 : BitVec 32 := Scalar.xori v2 c14_i32_367
  let c1_i32_372 : BitVec 32 := 1#32
  let v443 : BitVec 32 := Scalar.muli v441 c1_i32_372
  let v444 : BitVec 32 := Scalar.addi c0_i32_373 v443
  v444.toNat
def k0_dev46 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_377 : BitVec 32 := 15#32
  let v452 : BitVec 32 := Scalar.xori v2 c15_i32_377
  let c1_i32_382 : BitVec 32 := 1#32
  let v454 : BitVec 32 := Scalar.muli v452 c1_i32_382
  let v455 : BitVec 32 := Scalar.addi c0_i32_383 v454
  v455.toNat
def k0_dev47 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_387 : BitVec 32 := 16#32
  let v463 : BitVec 32 := Scalar.xori v2 c16_i32_387
  let c1_i32_392 : BitVec 32 := 1#32
  let v465 : BitVec 32 := Scalar.muli v463 c1_i32_392
  let v466 : BitVec 32 := Scalar.addi c0_i32_393 v465
  v466.toNat
def k0_dev48 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_397 : BitVec 32 := 17#32
  let v474 : BitVec 32 := Scalar.xori v2 c17_i32_397
  let c1_i32_402 : BitVec 32 := 1#32
  let v476 : BitVec 32 := Scalar.muli v474 c1_i32_402
  let v477 : BitVec 32 := Scalar.addi c0_i32_403 v476
  v477.toNat
def k0_dev49 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_407 : BitVec 32 := 18#32
  let v485 : BitVec 32 := Scalar.xori v2 c18_i32_407
  let c1_i32_412 : BitVec 32 := 1#32
  let v487 : BitVec 32 := Scalar.muli v485 c1_i32_412
  let v488 : BitVec 32 := Scalar.addi c0_i32_413 v487
  v488.toNat
def k0_dev50 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_417 : BitVec 32 := 19#32
  let v496 : BitVec 32 := Scalar.xori v2 c19_i32_417
  let c1_i32_422 : BitVec 32 := 1#32
  let v498 : BitVec 32 := Scalar.muli v496 c1_i32_422
  let v499 : BitVec 32 := Scalar.addi c0_i32_423 v498
  v499.toNat
def k0_dev51 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_427 : BitVec 32 := 20#32
  let v507 : BitVec 32 := Scalar.xori v2 c20_i32_427
  let c1_i32_432 : BitVec 32 := 1#32
  let v509 : BitVec 32 := Scalar.muli v507 c1_i32_432
  let v510 : BitVec 32 := Scalar.addi c0_i32_433 v509
  v510.toNat
def k0_dev52 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_437 : BitVec 32 := 21#32
  let v518 : BitVec 32 := Scalar.xori v2 c21_i32_437
  let c1_i32_442 : BitVec 32 := 1#32
  let v520 : BitVec 32 := Scalar.muli v518 c1_i32_442
  let v521 : BitVec 32 := Scalar.addi c0_i32_443 v520
  v521.toNat
def k0_dev53 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_447 : BitVec 32 := 22#32
  let v529 : BitVec 32 := Scalar.xori v2 c22_i32_447
  let c1_i32_452 : BitVec 32 := 1#32
  let v531 : BitVec 32 := Scalar.muli v529 c1_i32_452
  let v532 : BitVec 32 := Scalar.addi c0_i32_453 v531
  v532.toNat
def k0_dev54 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_457 : BitVec 32 := 23#32
  let v540 : BitVec 32 := Scalar.xori v2 c23_i32_457
  let c1_i32_462 : BitVec 32 := 1#32
  let v542 : BitVec 32 := Scalar.muli v540 c1_i32_462
  let v543 : BitVec 32 := Scalar.addi c0_i32_463 v542
  v543.toNat
def k0_dev55 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_467 : BitVec 32 := 24#32
  let v551 : BitVec 32 := Scalar.xori v2 c24_i32_467
  let c1_i32_472 : BitVec 32 := 1#32
  let v553 : BitVec 32 := Scalar.muli v551 c1_i32_472
  let v554 : BitVec 32 := Scalar.addi c0_i32_473 v553
  v554.toNat
def k0_dev56 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_477 : BitVec 32 := 25#32
  let v562 : BitVec 32 := Scalar.xori v2 c25_i32_477
  let c1_i32_482 : BitVec 32 := 1#32
  let v564 : BitVec 32 := Scalar.muli v562 c1_i32_482
  let v565 : BitVec 32 := Scalar.addi c0_i32_483 v564
  v565.toNat
def k0_dev57 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_487 : BitVec 32 := 26#32
  let v573 : BitVec 32 := Scalar.xori v2 c26_i32_487
  let c1_i32_492 : BitVec 32 := 1#32
  let v575 : BitVec 32 := Scalar.muli v573 c1_i32_492
  let v576 : BitVec 32 := Scalar.addi c0_i32_493 v575
  v576.toNat
def k0_dev58 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_497 : BitVec 32 := 27#32
  let v584 : BitVec 32 := Scalar.xori v2 c27_i32_497
  let c1_i32_502 : BitVec 32 := 1#32
  let v586 : BitVec 32 := Scalar.muli v584 c1_i32_502
  let v587 : BitVec 32 := Scalar.addi c0_i32_503 v586
  v587.toNat
def k0_dev59 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_507 : BitVec 32 := 28#32
  let v595 : BitVec 32 := Scalar.xori v2 c28_i32_507
  let c1_i32_512 : BitVec 32 := 1#32
  let v597 : BitVec 32 := Scalar.muli v595 c1_i32_512
  let v598 : BitVec 32 := Scalar.addi c0_i32_513 v597
  v598.toNat
def k0_dev60 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_517 : BitVec 32 := 29#32
  let v606 : BitVec 32 := Scalar.xori v2 c29_i32_517
  let c1_i32_522 : BitVec 32 := 1#32
  let v608 : BitVec 32 := Scalar.muli v606 c1_i32_522
  let v609 : BitVec 32 := Scalar.addi c0_i32_523 v608
  v609.toNat
def k0_dev61 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_527 : BitVec 32 := 30#32
  let v617 : BitVec 32 := Scalar.xori v2 c30_i32_527
  let c1_i32_532 : BitVec 32 := 1#32
  let v619 : BitVec 32 := Scalar.muli v617 c1_i32_532
  let v620 : BitVec 32 := Scalar.addi c0_i32_533 v619
  v620.toNat
def k0_dev62 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_537 : BitVec 32 := 31#32
  let v628 : BitVec 32 := Scalar.xori v2 c31_i32_537
  let c1_i32_542 : BitVec 32 := 1#32
  let v630 : BitVec 32 := Scalar.muli v628 c1_i32_542
  let v631 : BitVec 32 := Scalar.addi c0_i32_543 v630
  v631.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_547 : BitVec 32 := 8#32
  let v639 : BitVec 32 := Scalar.muli v2 c8_i32_547
  let v640 : Index := Scalar.indexCast v639
  let c0_548 : Index := 0#32
  ![v640.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_808 : BitVec 32 := 8#32
  let v869 : BitVec 32 := Scalar.muli v2 c8_i32_808
  let c0_i32_813 : BitVec 32 := 0#32
  ![v869.toNat, 0]
def k0_dev63 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_806 : BitVec 32 := 1#32
  let v867 : BitVec 32 := Scalar.xori v2 c1_i32_806
  let c1_i32_811 : BitVec 32 := 1#32
  let v870 : BitVec 32 := Scalar.muli v867 c1_i32_811
  let v871 : BitVec 32 := Scalar.addi c0_i32_812 v870
  v871.toNat
def k0_dev64 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_815 : BitVec 32 := 2#32
  let v878 : BitVec 32 := Scalar.xori v2 c2_i32_815
  let c1_i32_820 : BitVec 32 := 1#32
  let v881 : BitVec 32 := Scalar.muli v878 c1_i32_820
  let v882 : BitVec 32 := Scalar.addi c0_i32_821 v881
  v882.toNat
def k0_dev65 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_824 : BitVec 32 := 3#32
  let v889 : BitVec 32 := Scalar.xori v2 c3_i32_824
  let c1_i32_829 : BitVec 32 := 1#32
  let v892 : BitVec 32 := Scalar.muli v889 c1_i32_829
  let v893 : BitVec 32 := Scalar.addi c0_i32_830 v892
  v893.toNat
def k0_dev66 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_833 : BitVec 32 := 4#32
  let v900 : BitVec 32 := Scalar.xori v2 c4_i32_833
  let c1_i32_838 : BitVec 32 := 1#32
  let v903 : BitVec 32 := Scalar.muli v900 c1_i32_838
  let v904 : BitVec 32 := Scalar.addi c0_i32_839 v903
  v904.toNat
def k0_dev67 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_842 : BitVec 32 := 5#32
  let v911 : BitVec 32 := Scalar.xori v2 c5_i32_842
  let c1_i32_847 : BitVec 32 := 1#32
  let v914 : BitVec 32 := Scalar.muli v911 c1_i32_847
  let v915 : BitVec 32 := Scalar.addi c0_i32_848 v914
  v915.toNat
def k0_dev68 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_851 : BitVec 32 := 6#32
  let v922 : BitVec 32 := Scalar.xori v2 c6_i32_851
  let c1_i32_856 : BitVec 32 := 1#32
  let v925 : BitVec 32 := Scalar.muli v922 c1_i32_856
  let v926 : BitVec 32 := Scalar.addi c0_i32_857 v925
  v926.toNat
def k0_dev69 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_860 : BitVec 32 := 7#32
  let v933 : BitVec 32 := Scalar.xori v2 c7_i32_860
  let c1_i32_865 : BitVec 32 := 1#32
  let v936 : BitVec 32 := Scalar.muli v933 c1_i32_865
  let v937 : BitVec 32 := Scalar.addi c0_i32_866 v936
  v937.toNat
def k0_dev70 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_869 : BitVec 32 := 8#32
  let v944 : BitVec 32 := Scalar.xori v2 c8_i32_869
  let c1_i32_874 : BitVec 32 := 1#32
  let v947 : BitVec 32 := Scalar.muli v944 c1_i32_874
  let v948 : BitVec 32 := Scalar.addi c0_i32_875 v947
  v948.toNat
def k0_dev71 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_878 : BitVec 32 := 9#32
  let v955 : BitVec 32 := Scalar.xori v2 c9_i32_878
  let c1_i32_883 : BitVec 32 := 1#32
  let v958 : BitVec 32 := Scalar.muli v955 c1_i32_883
  let v959 : BitVec 32 := Scalar.addi c0_i32_884 v958
  v959.toNat
def k0_dev72 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_887 : BitVec 32 := 10#32
  let v966 : BitVec 32 := Scalar.xori v2 c10_i32_887
  let c1_i32_892 : BitVec 32 := 1#32
  let v969 : BitVec 32 := Scalar.muli v966 c1_i32_892
  let v970 : BitVec 32 := Scalar.addi c0_i32_893 v969
  v970.toNat
def k0_dev73 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_896 : BitVec 32 := 11#32
  let v977 : BitVec 32 := Scalar.xori v2 c11_i32_896
  let c1_i32_901 : BitVec 32 := 1#32
  let v980 : BitVec 32 := Scalar.muli v977 c1_i32_901
  let v981 : BitVec 32 := Scalar.addi c0_i32_902 v980
  v981.toNat
def k0_dev74 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_905 : BitVec 32 := 12#32
  let v988 : BitVec 32 := Scalar.xori v2 c12_i32_905
  let c1_i32_910 : BitVec 32 := 1#32
  let v991 : BitVec 32 := Scalar.muli v988 c1_i32_910
  let v992 : BitVec 32 := Scalar.addi c0_i32_911 v991
  v992.toNat
def k0_dev75 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_914 : BitVec 32 := 13#32
  let v999 : BitVec 32 := Scalar.xori v2 c13_i32_914
  let c1_i32_919 : BitVec 32 := 1#32
  let v1002 : BitVec 32 := Scalar.muli v999 c1_i32_919
  let v1003 : BitVec 32 := Scalar.addi c0_i32_920 v1002
  v1003.toNat
def k0_dev76 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_923 : BitVec 32 := 14#32
  let v1010 : BitVec 32 := Scalar.xori v2 c14_i32_923
  let c1_i32_928 : BitVec 32 := 1#32
  let v1013 : BitVec 32 := Scalar.muli v1010 c1_i32_928
  let v1014 : BitVec 32 := Scalar.addi c0_i32_929 v1013
  v1014.toNat
def k0_dev77 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_932 : BitVec 32 := 15#32
  let v1021 : BitVec 32 := Scalar.xori v2 c15_i32_932
  let c1_i32_937 : BitVec 32 := 1#32
  let v1024 : BitVec 32 := Scalar.muli v1021 c1_i32_937
  let v1025 : BitVec 32 := Scalar.addi c0_i32_938 v1024
  v1025.toNat
def k0_dev78 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_941 : BitVec 32 := 16#32
  let v1032 : BitVec 32 := Scalar.xori v2 c16_i32_941
  let c1_i32_946 : BitVec 32 := 1#32
  let v1035 : BitVec 32 := Scalar.muli v1032 c1_i32_946
  let v1036 : BitVec 32 := Scalar.addi c0_i32_947 v1035
  v1036.toNat
def k0_dev79 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_950 : BitVec 32 := 17#32
  let v1043 : BitVec 32 := Scalar.xori v2 c17_i32_950
  let c1_i32_955 : BitVec 32 := 1#32
  let v1046 : BitVec 32 := Scalar.muli v1043 c1_i32_955
  let v1047 : BitVec 32 := Scalar.addi c0_i32_956 v1046
  v1047.toNat
def k0_dev80 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_959 : BitVec 32 := 18#32
  let v1054 : BitVec 32 := Scalar.xori v2 c18_i32_959
  let c1_i32_964 : BitVec 32 := 1#32
  let v1057 : BitVec 32 := Scalar.muli v1054 c1_i32_964
  let v1058 : BitVec 32 := Scalar.addi c0_i32_965 v1057
  v1058.toNat
def k0_dev81 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_968 : BitVec 32 := 19#32
  let v1065 : BitVec 32 := Scalar.xori v2 c19_i32_968
  let c1_i32_973 : BitVec 32 := 1#32
  let v1068 : BitVec 32 := Scalar.muli v1065 c1_i32_973
  let v1069 : BitVec 32 := Scalar.addi c0_i32_974 v1068
  v1069.toNat
def k0_dev82 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_977 : BitVec 32 := 20#32
  let v1076 : BitVec 32 := Scalar.xori v2 c20_i32_977
  let c1_i32_982 : BitVec 32 := 1#32
  let v1079 : BitVec 32 := Scalar.muli v1076 c1_i32_982
  let v1080 : BitVec 32 := Scalar.addi c0_i32_983 v1079
  v1080.toNat
def k0_dev83 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_986 : BitVec 32 := 21#32
  let v1087 : BitVec 32 := Scalar.xori v2 c21_i32_986
  let c1_i32_991 : BitVec 32 := 1#32
  let v1090 : BitVec 32 := Scalar.muli v1087 c1_i32_991
  let v1091 : BitVec 32 := Scalar.addi c0_i32_992 v1090
  v1091.toNat
def k0_dev84 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_995 : BitVec 32 := 22#32
  let v1098 : BitVec 32 := Scalar.xori v2 c22_i32_995
  let c1_i32_1000 : BitVec 32 := 1#32
  let v1101 : BitVec 32 := Scalar.muli v1098 c1_i32_1000
  let v1102 : BitVec 32 := Scalar.addi c0_i32_1001 v1101
  v1102.toNat
def k0_dev85 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1004 : BitVec 32 := 23#32
  let v1109 : BitVec 32 := Scalar.xori v2 c23_i32_1004
  let c1_i32_1009 : BitVec 32 := 1#32
  let v1112 : BitVec 32 := Scalar.muli v1109 c1_i32_1009
  let v1113 : BitVec 32 := Scalar.addi c0_i32_1010 v1112
  v1113.toNat
def k0_dev86 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1013 : BitVec 32 := 24#32
  let v1120 : BitVec 32 := Scalar.xori v2 c24_i32_1013
  let c1_i32_1018 : BitVec 32 := 1#32
  let v1123 : BitVec 32 := Scalar.muli v1120 c1_i32_1018
  let v1124 : BitVec 32 := Scalar.addi c0_i32_1019 v1123
  v1124.toNat
def k0_dev87 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1022 : BitVec 32 := 25#32
  let v1131 : BitVec 32 := Scalar.xori v2 c25_i32_1022
  let c1_i32_1027 : BitVec 32 := 1#32
  let v1134 : BitVec 32 := Scalar.muli v1131 c1_i32_1027
  let v1135 : BitVec 32 := Scalar.addi c0_i32_1028 v1134
  v1135.toNat
def k0_dev88 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1031 : BitVec 32 := 26#32
  let v1142 : BitVec 32 := Scalar.xori v2 c26_i32_1031
  let c1_i32_1036 : BitVec 32 := 1#32
  let v1145 : BitVec 32 := Scalar.muli v1142 c1_i32_1036
  let v1146 : BitVec 32 := Scalar.addi c0_i32_1037 v1145
  v1146.toNat
def k0_dev89 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1040 : BitVec 32 := 27#32
  let v1153 : BitVec 32 := Scalar.xori v2 c27_i32_1040
  let c1_i32_1045 : BitVec 32 := 1#32
  let v1156 : BitVec 32 := Scalar.muli v1153 c1_i32_1045
  let v1157 : BitVec 32 := Scalar.addi c0_i32_1046 v1156
  v1157.toNat
def k0_dev90 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1049 : BitVec 32 := 28#32
  let v1164 : BitVec 32 := Scalar.xori v2 c28_i32_1049
  let c1_i32_1054 : BitVec 32 := 1#32
  let v1167 : BitVec 32 := Scalar.muli v1164 c1_i32_1054
  let v1168 : BitVec 32 := Scalar.addi c0_i32_1055 v1167
  v1168.toNat
def k0_dev91 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1058 : BitVec 32 := 29#32
  let v1175 : BitVec 32 := Scalar.xori v2 c29_i32_1058
  let c1_i32_1063 : BitVec 32 := 1#32
  let v1178 : BitVec 32 := Scalar.muli v1175 c1_i32_1063
  let v1179 : BitVec 32 := Scalar.addi c0_i32_1064 v1178
  v1179.toNat
def k0_dev92 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1067 : BitVec 32 := 30#32
  let v1186 : BitVec 32 := Scalar.xori v2 c30_i32_1067
  let c1_i32_1072 : BitVec 32 := 1#32
  let v1189 : BitVec 32 := Scalar.muli v1186 c1_i32_1072
  let v1190 : BitVec 32 := Scalar.addi c0_i32_1073 v1189
  v1190.toNat
def k0_dev93 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1076 : BitVec 32 := 31#32
  let v1197 : BitVec 32 := Scalar.xori v2 c31_i32_1076
  let c1_i32_1081 : BitVec 32 := 1#32
  let v1200 : BitVec 32 := Scalar.muli v1197 c1_i32_1081
  let v1201 : BitVec 32 := Scalar.addi c0_i32_1082 v1200
  v1201.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩
abbrev S256x8192 : Shape := ⟨2, ![256, 8192]⟩
abbrev S256x512 : Shape := ⟨2, ![256, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x8192, .bf16⟩
  | .hbm, ⟨2, _⟩ => ⟨S2x128x128x64, .bf16⟩
  | .hbm, ⟨3, _⟩ => ⟨S2x128x128x64, .bf16⟩
  | .hbm, ⟨4, _⟩ => ⟨S8192x512, .bf16⟩
  | .hbm, ⟨5, _⟩ => ⟨S2x128x8192, .f32⟩
  | .hbm, ⟨6, _⟩ => ⟨S2x128x8192, .bf16⟩
  | .hbm, ⟨7, _⟩ => ⟨S2x128x128x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x128x128x128, .f32⟩
  | .hbm, ⟨20, _⟩ => ⟨S2x128x128x128, .bf16⟩
  | .hbm, ⟨21, _⟩ => ⟨S2x128x128x128, .f32⟩
  | .hbm, ⟨22, _⟩ => ⟨S_, .f32⟩
  | .hbm, ⟨23, _⟩ => ⟨S2x128x128x128, .f32⟩
  | .hbm, ⟨24, _⟩ => ⟨S2x128x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x128x128x128, .i1⟩
  | .hbm, ⟨29, _⟩ => ⟨S2x128x128x128, .f32⟩
  | .hbm, ⟨30, _⟩ => ⟨S2x128x128x128, .f32⟩
  | .hbm, ⟨31, _⟩ => ⟨S_, .f32⟩
  | .hbm, ⟨32, _⟩ => ⟨S2x128x128, .f32⟩
  | .hbm, ⟨33, _⟩ => ⟨S2x128x128x1, .f32⟩
  | .hbm, ⟨34, _⟩ => ⟨S2x128x128x128, .f32⟩
  | .hbm, ⟨35, _⟩ => ⟨S2x128x128x128, .f32⟩
  | .hbm, ⟨36, _⟩ => ⟨S2x128x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x128x128, .f32⟩
  | .hbm, ⟨42, _⟩ => ⟨S2x128x128x1, .f32⟩
  | .hbm, ⟨43, _⟩ => ⟨S_, .f32⟩
  | .hbm, ⟨44, _⟩ => ⟨S_, .f32⟩
  | .hbm, ⟨45, _⟩ => ⟨S2x128x128x1, .i1⟩
  | .hbm, ⟨46, _⟩ => ⟨S2x128x128x1, .f32⟩
  | .hbm, ⟨47, _⟩ => ⟨S2x128x128x1, .f32⟩
  | .hbm, ⟨48, _⟩ => ⟨S2x128x128x128, .f32⟩
  | .hbm, ⟨49, _⟩ => ⟨S2x128x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x128x128x128, .i1⟩
  | .hbm, ⟨54, _⟩ => ⟨S2x128x128x128, .f32⟩
  | .hbm, ⟨55, _⟩ => ⟨S2x128x128x128, .f32⟩
  | .hbm, ⟨56, _⟩ => ⟨S2x128x64x128, .f32⟩
  | .hbm, ⟨57, _⟩ => ⟨S2x128x128x64, .f32⟩
  | .hbm, ⟨58, _⟩ => ⟨S256x8192, .f32⟩
  | .hbm, ⟨59, _⟩ => ⟨S256x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Ideal.Program.lean ====
module

public import proofs.«01_k».proof.Proof.Gen.KernelIdeal
public import proofs.«01_k».proof.Proof.Gen.KernelIdeal.Skeleton
public import proofs.«01_k».proof.Proof.Gen.KernelIdeal.Points

@[expose] public section

set_option synthInstance.maxSize 4096

/-! The kernel body written as loops over the shifts `1 … 31` and over the eight (batch, head)
pairs of a device, and the proof that the printed body is that program. -/

noncomputable section

namespace Cert.KernelIdeal.Mesh

open Idealize.ShloMosaic Idealize.ShloMosaic.TcCoe
open Idealize.SL Idealize.SL.Sem
open Cert.KernelIdeal Cert.KernelIdeal.Gen

variable {F : FTy → Type} [FloatOps F]

/-- The programs of the kernel. -/
abbrev Pr (F : FTy → Type) : Type 1 := Prog (TpuEff nD τ sig (Elt F) Λ₀ .tc) PUnit

/-- The body run once for each element of a list, in order. -/
def each {β : Type} (f : β → Pr F) : List β → Pr F
  | [] => pure ⟨⟩
  | d :: l => f d >>= fun _ => each f l

/-- The shifts a device talks to the others by. -/
def shifts : List (Fin 32) :=
  [1, 2, 3, 4, 5, 6, 7, 8, 9, 10, 11, 12, 13, 14, 15, 16, 17, 18, 19, 20, 21, 22, 23, 24, 25, 26, 27, 28, 29, 30, 31]

/-- The (batch, head) pairs of a device. -/
def pairs : List (Fin 2 × Fin 4) := [(0, 0), (0, 1), (0, 2), (0, 3), (1, 0), (1, 1), (1, 2), (1, 3)]

/-- The word of the partner of `c` at a shift. -/
def peerNat (c : Dev nD) (w : BitVec 32) : ℕ :=
  (Scalar.addi 0#32 (Scalar.muli (Scalar.xori (Scalar.remsi (Scalar.divsi (Dev.word c) 1#32) 32#32) w) 1#32)).toNat

/-- The partner's word names a device. -/
theorem peerNat_lt : ∀ (c : Dev nD) (d : Fin 32), peerNat c (BitVec.ofNat 32 d.val) < nD := by decide +kernel

/-- The partner of `c` at shift `d`, as the kernel computes it. -/
def peer (c : Dev nD) (d : Fin 32) : Dev nD := ⟨peerNat c (BitVec.ofNat 32 d.val), peerNat_lt c d⟩

/-- The rows sent lie in the partial product. -/
theorem offP_inb : ∀ (c : Dev nD) (d : Fin 32) (a : Fin 2),
    (k0_off1 c (BitVec.ofNat 32 d.val)) a + S8x512.size a ≤ S256x512.size a := by decide +kernel

/-- A slot lies in the gathering buffer. -/
theorem inb_slot : ∀ (d : Fin 32) (a : Fin 3), (![d.val, 0, 0] : Fin 3 → ℕ) a + S1x8x512.size a ≤ S32x8x512.size a := by
  decide +kernel

/-- A semaphore's number lies in its array. -/
theorem inb_sem : ∀ (d : Fin 32) (a : Fin 1), (![d.val] : Fin 1 → ℕ) a + S1.size a ≤ S32.size a := by decide +kernel

/-- The semaphore of shift `d` in an array of them. -/
abbrev semOf (A : DmaSems sig S32) (d : Fin 32) : DmaSem sig :=
  ((A.slice (Rect.unit (s := S32) ![d.val] S1.size (inb_sem d))).squeeze S_ squeezes_S1_S_).sem

section Views
variable (arg5 arg8 : Memref sig .tc .vmem S256x512 .f32) (arg9 : Memref sig .tc .vmem S32x8x512 .f32)

/-- The eight rows of the partial product that belong to the partner at shift `d`. -/
abbrev rowsOf (c : Dev nD) (d : Fin 32) : Memref sig .tc .vmem S8x512 .f32 :=
  arg8.slice (Rect.unit (s := S256x512) (k0_off1 c (BitVec.ofNat 32 d.val)) S8x512.size (offP_inb c d)) (fun _ => rfl)

/-- The slot of the gathering buffer that shift `d` writes. -/
abbrev slotOf (d : Fin 32) : Memref sig .tc .vmem S8x512 .f32 :=
  (arg9.slice (Rect.unit (s := S32x8x512) ![d.val, 0, 0] S1x8x512.size (inb_slot d)) (fun _ => rfl)).squeeze S8x512 squeezes_S1x8x512_S8x512

/-- The eight rows of the result that device `c` sums. -/
abbrev outOf (c : Dev nD) : Memref sig .tc .vmem S8x512 .f32 :=
  arg5.slice (Rect.unit (s := S256x512) (k0_off3 c) S8x512.size (k0_off3_inb c)) (fun _ => rfl)
end Views

/-- A pair's part lies in the head array. -/
theorem inb_hd : ∀ (p : Fin 2 × Fin 4) (a : Fin 2), (![128 * p.1.val, 64 * p.2.val] : Fin 2 → ℕ) a + S128x64.size a ≤ S256x256.size a := by
  decide +kernel

/-- A pair's keys lie in the key array. -/
theorem inb_kv : ∀ (p : Fin 2 × Fin 4) (a : Fin 4), (![p.1.val, 0, p.2.val, 0] : Fin 4 → ℕ) a + S1x128x1x64.size a ≤ S2x128x4x64.size a := by
  decide +kernel

/-- The part of a head array that pair `p` reads or writes. -/
abbrev hdRect (p : Fin 2 × Fin 4) : Rect S256x256 :=
  Rect.unit (s := S256x256) ![128 * p.1.val, 64 * p.2.val] S128x64.size (inb_hd p)

/-- A pair's part of a head array is made of whole packed rows. -/
theorem packed_hd : ∀ p : Fin 2 × Fin 4, (hdRect p).PackedRows (EltTy.packing .bf16) := by decide +kernel

/-- The part of the keys, or of the values, that pair `p` reads. -/
abbrev kvRect (p : Fin 2 × Fin 4) : Rect S2x128x4x64 :=
  Rect.unit (s := S2x128x4x64) ![p.1.val, 0, p.2.val, 0] S1x128x1x64.size (inb_kv p)

/-- The context of one pair from its queries, keys and values. -/
abbrev headOut (q : Vec F S128x64 .bf16) (k v : Vec F S1x128x1x64 .bf16) : FVec F S128x64 .bf16 := k0_pay5 q k v

variable (arg0 : Memref sig .tc .vmem S2x128x512 .bf16) (arg1 : Memref sig .tc .vmem S512x256 .bf16)
  (arg2 arg3 : Memref sig .tc .vmem S2x128x4x64 .bf16) (arg4 : Memref sig .tc .vmem S256x512 .bf16)
  (arg5 : Memref sig .tc .vmem S256x512 .f32) (arg6 : Memref sig .tc .vmem S256x256 .bf16) (harg6 : arg6.IsWhole)
  (arg7 : Memref sig .tc .vmem S256x256 .bf16) (harg7 : arg7.IsWhole)
  (arg8 : Memref sig .tc .vmem S256x512 .f32) (arg9 : Memref sig .tc .vmem S32x8x512 .f32)
  (arg10 arg11 arg12 arg13 : DmaSems sig S32)

/-- The barrier semaphore. -/
abbrev barSem : Sem sig := (SemArray.scalar (sig.barrier 0 rfl) : Sems sig S_).sem

/-- One signal of the entry barrier. -/
def sigStep (c : Dev nD) (d : Fin 32) : Pr F := semSignalWord (peer c d) barSem 1#32

/-- The attention of one pair. -/
def headStep (p : Fin 2 × Fin 4) : Pr F := do
  let q : Vec F S128x64 .bf16 ← Prog.lift (.load arg6 (hdRect p).toLoadRect (View.loadsAt_vmem h_S128x64))
  let k : Vec F S1x128x1x64 .bf16 ← Prog.lift (.load arg2 (kvRect p).toLoadRect (View.loadsAt_vmem h_S1x128x1x64))
  let v : Vec F S1x128x1x64 .bf16 ← Prog.lift (.load arg3 (kvRect p).toLoadRect (View.loadsAt_vmem h_S1x128x1x64))
  let _o : Vec F S128x64 .bf16 ← Prog.lift (.load arg7 (hdRect p).toLoadRect (View.loadsAt_vmem h_S128x64))
  Prog.lift (.store arg7 (hdRect p) (headOut q k v) Finset.univ
    (View.stores_vmem h_S128x64 (harg7.storeExact_slice rfl _ (packed_hd p)) (fun _ => rfl)) (.inl rfl))

/-- The projection of the queries. -/
def projStep : Pr F := do
  let x : Vec F S2x128x512 .bf16 ← Prog.lift (.load arg0 (Rect.unit (s := S2x128x512) ![0, 0, 0] S2x128x512.size inb_S2x128x512_S2x128x512_0_0_0).toLoadRect (View.loadsAt_vmem h_S2x128x512))
  let w : Vec F S512x256 .bf16 ← Prog.lift (.load arg1 (Rect.unit (s := S512x256) ![0, 0] S512x256.size inb_S512x256_S512x256_0_0).toLoadRect (View.loadsAt_vmem h_S512x256))
  let _o : Vec F S256x256 .bf16 ← Prog.lift (.load arg6 (Rect.unit (s := S256x256) ![0, 0] S256x256.size inb_S256x256_S256x256_0_0).toLoadRect (View.loadsAt_vmem h_S256x256))
  Prog.lift (.store arg6 (Rect.unit (s := S256x256) ![0, 0] S256x256.size inb_S256x256_S256x256_0_0) (k0_pay1 x w) Finset.univ
    (View.stores_vmem h_S256x256 (harg6.storeExact_slice rfl _ packedbf16_S256x256_S256x256_0_0) (fun _ => rfl)) (.inl rfl))

/-- The product of the context by the device's rows of the output weights. -/
def prodStep : Pr F := do
  let o : Vec F S256x256 .bf16 ← Prog.lift (.load arg7 (Rect.unit (s := S256x256) ![0, 0] S256x256.size inb_S256x256_S256x256_0_0).toLoadRect (View.loadsAt_vmem h_S256x256))
  let w : Vec F S256x512 .bf16 ← Prog.lift (.load arg4 (Rect.unit (s := S256x512) ![0, 0] S256x512.size inb_S256x512_S256x512_0_0).toLoadRect (View.loadsAt_vmem h_S256x512))
  let _y : Vec F S256x512 .f32 ← Prog.lift (.load arg8 (Rect.unit (s := S256x512) ![0, 0] S256x512.size inb_S256x512_S256x512_0_0).toLoadRect (View.loadsAt_vmem h_S256x512))
  Prog.lift (.store arg8 (Rect.unit (s := S256x512) ![0, 0] S256x512.size inb_S256x512_S256x512_0_0) (k0_pay17 o w) Finset.univ
    (View.stores_vmem_bits_univ h_S256x512 rfl) (.inl rfl))

/-- One send of the first exchange. -/
def send1 (c : Dev nD) (d : Fin 32) : Pr F :=
  Prog.lift (.enqueueDma (rowsOf arg8 c d) (.remote (Dev.tc (peer c d)) (slotOf arg9 d) (.dma (semOf arg10 d))) (.dma (semOf arg11 d))
    (View.wordExact_bits rfl) ((View.wordExact_bits rfl).reshape _ _) ⟨⟨rfl, Or.inl rfl⟩, trivial⟩)

/-- The device's own rows put into slot 0. -/
def ownStep (c : Dev nD) : Pr F := do
  let y : Vec F S8x512 .f32 ← Prog.lift (.load arg8 (Rect.unit (s := S256x512) (k0_off2 c) S8x512.size (k0_off2_inb c)).toLoadRect (View.loadsAt_vmem h_S8x512))
  let _o : Vec F S1x8x512 .f32 ← Prog.lift (.load arg9 (Rect.unit (s := S32x8x512) ![0, 0, 0] S1x8x512.size inb_S32x8x512_S1x8x512_0_0_0).toLoadRect (View.loadsAt_vmem h_S1x8x512))
  Prog.lift (.store arg9 (Rect.unit (s := S32x8x512) ![0, 0, 0] S1x8x512.size inb_S32x8x512_S1x8x512_0_0_0) (k0_pay18 y) Finset.univ
    (View.stores_vmem_bits_univ h_S1x8x512 rfl) (.inl rfl))

/-- One wait of the first exchange for what the partner sends. -/
def recv1 (c : Dev nD) (d : Fin 32) : Pr F :=
  Prog.lift (.waitDma2 (semOf arg11 d) (rowsOf arg8 c d) (slotOf arg9 d) (View.wordExact_bits rfl) ((View.wordExact_bits rfl).reshape _ _))

/-- The sum of the slots put into the device's rows of the result. -/
def sumStep (c : Dev nD) : Pr F := do
  let a : Vec F S32x8x512 .f32 ← Prog.lift (.load arg9 (Rect.unit (s := S32x8x512) ![0, 0, 0] S32x8x512.size inb_S32x8x512_S32x8x512_0_0_0).toLoadRect (View.loadsAt_vmem h_S32x8x512))
  let _o : Vec F S8x512 .f32 ← Prog.lift (.load arg5 (Rect.unit (s := S256x512) (k0_off2 c) S8x512.size (k0_off2_inb c)).toLoadRect (View.loadsAt_vmem h_S8x512))
  Prog.lift (.store arg5 (Rect.unit (s := S256x512) (k0_off2 c) S8x512.size (k0_off2_inb c)) (k0_pay19 a) Finset.univ
    (View.stores_vmem_bits_univ h_S8x512 rfl) (.inl rfl))

/-- One send of the second exchange. -/
def send2 (c : Dev nD) (d : Fin 32) : Pr F :=
  Prog.lift (.enqueueDma (outOf arg5 c) (.remote (Dev.tc (peer c d)) (outOf arg5 c) (.dma (semOf arg12 d))) (.dma (semOf arg13 d))
    (View.wordExact_bits rfl) (View.wordExact_bits rfl) ⟨⟨rfl, Or.inl rfl⟩, trivial⟩)

/-- One wait of the second exchange for what the partner sends. -/
def recv2 (c : Dev nD) (d : Fin 32) : Pr F :=
  Prog.lift (.waitDma2 (semOf arg13 d) (outOf arg5 c) (outOf arg5 c) (View.wordExact_bits rfl) (View.wordExact_bits rfl))

/-- One wait of the first exchange for the device's own send to have left. -/
def sent1 (c : Dev nD) (d : Fin 32) : Pr F :=
  Prog.lift (.waitDma2 (semOf arg10 d) (slotOf arg9 d) (rowsOf arg8 c d) ((View.wordExact_bits rfl).reshape _ _) (View.wordExact_bits rfl))

/-- One wait of the second exchange for the device's own send to have left. -/
def sent2 (c : Dev nD) (d : Fin 32) : Pr F :=
  Prog.lift (.waitDma2 (semOf arg12 d) (outOf arg5 c) (outOf arg5 c) (View.wordExact_bits rfl) (View.wordExact_bits rfl))

/-- The whole body. -/
def program : Pr F := do
  let c : Dev nD ← Prog.lift .deviceId
  each (sigStep c) shifts
  semWaitWord barSem 31#32
  projStep arg0 arg1 arg6 harg6
  each (headStep arg2 arg3 arg6 arg7 harg7) pairs
  prodStep arg4 arg7 arg8
  each (send1 arg8 arg9 arg10 arg11 c) shifts
  ownStep arg8 arg9 c
  each (recv1 arg8 arg9 arg11 c) shifts
  sumStep arg5 arg9 c
  each (send2 arg5 arg12 arg13 c) shifts
  each (recv2 arg5 arg13 c) shifts
  each (sent1 arg8 arg9 arg10 c) shifts
  each (sent2 arg5 arg12 c) shifts

set_option maxRecDepth 200000 in
set_option maxHeartbeats 4000000 in
/-- The printed body is the looped program. -/
theorem body_eq (harg0 : arg0.IsWhole) (harg1 : arg1.IsWhole) (harg2 : arg2.IsWhole) (harg3 : arg3.IsWhole) (harg4 : arg4.IsWhole)
    (harg5 : arg5.IsWhole) (harg8 : arg8.IsWhole) (harg9 : arg9.IsWhole) :
    cc0__body (F := F) arg0 harg0 arg1 harg1 arg2 harg2 arg3 harg3 arg4 harg4 arg5 harg5 arg6 harg6 arg7 harg7 arg8 harg8 arg9 harg9
      arg10 arg11 arg12 arg13
    = program arg0 arg1 arg2 arg3 arg4 arg5 arg6 harg6 arg7 harg7 arg8 arg9 arg10 arg11 arg12 arg13 := rfl

end Cert.KernelIdeal.Mesh

end
-- ==== Proof.Ideal.Contents.lean ====
module

public import proofs.«01_k».proof.Proof.Ideal.Program
public import Idealize.ShloMosaic.Lib.ValueIdxCore

@[expose] public section

set_option synthInstance.maxSize 4096

/-! The views of the kernel's buffers by coordinates, and what each buffer holds. -/

noncomputable section

namespace Cert.KernelIdeal.Mesh

open Idealize.ShloMosaic Idealize.ShloMosaic.TcCoe
open Idealize.SL Idealize.SL.Sem
open Idealize.ShloMosaic.ValueIdx
open Cert.KernelIdeal Cert.KernelIdeal.Gen

variable {F : FTy → Type} [FloatOps F]

/-! ## Partners -/

/-- A partner's partner at the same shift is the device itself. -/
theorem peer_peer : ∀ (c : Dev nD) (d : Fin 32), peer (peer c d) d = c := by decide +kernel
/-- Shift 0 is the device itself. -/
theorem peer_zero : ∀ c : Dev nD, peer c 0 = c := by decide +kernel
/-- The shift between two devices. -/
def shiftOf (c p : Dev nD) : Fin 32 := peer c p
/-- The partner at the shift between two devices is the second of them. -/
theorem peer_shiftOf : ∀ c p : Dev nD, peer c (shiftOf c p) = p := by decide +kernel
/-- The shift between a device and its partner is the partner's. -/
theorem shiftOf_peer : ∀ (c : Dev nD) (d : Fin 32), shiftOf c (peer c d) = d := by decide +kernel
/-- Exclusive or is commutative. -/
theorem peer_comm : ∀ (c d : Fin 32), peer c d = peer d c := by decide +kernel
/-- Distinct shifts have distinct partners. -/
theorem peer_inj (c : Dev nD) {d e : Fin 32} (h : peer c d = peer c e) : d = e := by
  rw [← shiftOf_peer c d, ← shiftOf_peer c e, h]

/-- The first row sent to the partner at a shift. -/
theorem off1_zero : ∀ (c : Dev nD) (d : Fin 32), k0_off1 c (BitVec.ofNat 32 d.val) 0 = 8 * (peer c d).val := by decide +kernel
/-- The rows sent begin at column 0. -/
theorem off1_one : ∀ (c : Dev nD) (d : Fin 32), k0_off1 c (BitVec.ofNat 32 d.val) 1 = 0 := by decide +kernel
/-- The first of a device's own rows, as the loads compute it. -/
theorem off2_zero : ∀ c : Dev nD, k0_off2 c 0 = 8 * c.val := by decide +kernel
/-- The own rows begin at column 0. -/
theorem off2_one : ∀ c : Dev nD, k0_off2 c 1 = 0 := by decide +kernel
/-- The first of a device's own rows, as the copies compute it. -/
theorem off3_zero : ∀ c : Dev nD, k0_off3 c 0 = 8 * c.val := by decide +kernel
/-- The own rows begin at column 0 there too. -/
theorem off3_one : ∀ c : Dev nD, k0_off3 c 1 = 0 := by decide +kernel

/-! ## The buffers -/

abbrev xB : Memref sig .tc .vmem S2x128x512 .bf16 := Memref.whole cc0_stg0_0
abbrev wqB : Memref sig .tc .vmem S512x256 .bf16 := Memref.whole cc0_stg1_0
abbrev kB : Memref sig .tc .vmem S2x128x4x64 .bf16 := Memref.whole cc0_stg2_0
abbrev vB : Memref sig .tc .vmem S2x128x4x64 .bf16 := Memref.whole cc0_stg3_0
abbrev woB : Memref sig .tc .vmem S256x512 .bf16 := Memref.whole cc0_stg4_0
abbrev oB : Memref sig .tc .vmem S256x512 .f32 := Memref.whole cc0_stg5_0
abbrev qB : Memref sig .tc .vmem S256x256 .bf16 := Memref.whole cc0_scratch0
abbrev cB : Memref sig .tc .vmem S256x256 .bf16 := Memref.whole cc0_scratch1
abbrev yB : Memref sig .tc .vmem S256x512 .f32 := Memref.whole cc0_scratch2
abbrev aB : Memref sig .tc .vmem S32x8x512 .f32 := Memref.whole cc0_scratch3

/-! ## Which elements a view has -/

/-- The rows sent at a shift are those whose owner is the partner. -/
theorem mem_rows (c : Dev nD) (d : Fin 32) (i : S256x512.Idx) : i ∈ (rowsOf yB c d).view.set ↔ (i 0).val / 8 = (peer c d).val := by
  have hs : (rowsOf yB c d).view.set = (Rect.unit (s := S256x512) (k0_off1 c (BitVec.ofNat 32 d.val)) S8x512.size (offP_inb c d)).set :=
    View.set_slice_whole cc0_scratch2 _
  rw [hs]
  refine Rect.mem_set_unit.trans ⟨fun h => ?_, fun h a => ?_⟩
  · have h0 := h 0
    rw [off1_zero] at h0
    have e : S8x512.size 0 = 8 := rfl
    rw [e] at h0
    omega
  · match a with
    | ⟨0, _⟩ =>
      show k0_off1 c (BitVec.ofNat 32 d.val) 0 ≤ (i 0).val ∧ (i 0).val < k0_off1 c (BitVec.ofNat 32 d.val) 0 + 8
      rw [off1_zero]; omega
    | ⟨1, _⟩ =>
      show k0_off1 c (BitVec.ofNat 32 d.val) 1 ≤ (i 1).val ∧ (i 1).val < k0_off1 c (BitVec.ofNat 32 d.val) 1 + 512
      rw [off1_one]; exact ⟨Nat.zero_le _, by have := (i 1).isLt; rw [Nat.zero_add]; exact this⟩

/-- The rows a device sums are those it owns. -/
theorem mem_out (c : Dev nD) (i : S256x512.Idx) : i ∈ (outOf oB c).view.set ↔ (i 0).val / 8 = c.val := by
  have hs : (outOf oB c).view.set = (Rect.unit (s := S256x512) (k0_off3 c) S8x512.size (k0_off3_inb c)).set :=
    View.set_slice_whole cc0_stg5_0 _
  rw [hs]
  refine Rect.mem_set_unit.trans ⟨fun h => ?_, fun h a => ?_⟩
  · have h0 := h 0
    rw [off3_zero] at h0
    have e : S8x512.size 0 = 8 := rfl
    rw [e] at h0
    omega
  · match a with
    | ⟨0, _⟩ =>
      show k0_off3 c 0 ≤ (i 0).val ∧ (i 0).val < k0_off3 c 0 + 8
      rw [off3_zero]; omega
    | ⟨1, _⟩ =>
      show k0_off3 c 1 ≤ (i 1).val ∧ (i 1).val < k0_off3 c 1 + 512
      rw [off3_one]; exact ⟨Nat.zero_le _, by have := (i 1).isLt; rw [Nat.zero_add]; exact this⟩

/-- A slot is the elements of its number. -/
theorem mem_slot (d : Fin 32) (i : S32x8x512.Idx) : i ∈ (slotOf aB d).view.set ↔ i 0 = d := by
  have hs : (slotOf aB d).view.set = (Rect.unit (s := S32x8x512) ![d.val, 0, 0] S1x8x512.size (inb_slot d)).set :=
    (View.set_reshape _ _).trans (View.set_slice_whole cc0_scratch3 _)
  rw [hs]
  refine Rect.mem_set_unit.trans ⟨fun h => ?_, fun h a => ?_⟩
  · have h0 : d.val ≤ (i 0).val ∧ (i 0).val < d.val + 1 := h 0
    exact Fin.ext (by omega)
  · match a with
    | ⟨0, _⟩ => show d.val ≤ (i 0).val ∧ (i 0).val < d.val + 1; rw [h]; omega
    | ⟨1, _⟩ => show 0 ≤ (i 1).val ∧ (i 1).val < 0 + 8; have : (i 1).val < 8 := (i 1).isLt; omega
    | ⟨2, _⟩ => show 0 ≤ (i 2).val ∧ (i 2).val < 0 + 512; have : (i 2).val < 512 := (i 2).isLt; omega

/-! ## Where a view's element lies -/

/-- Where an element of the rows sent lies in the partial product. -/
theorem rows_emb (c : Dev nD) (d : Fin 32) (x : S8x512.Idx) :
    (rowsOf yB c d).view.emb x
      = (ix2 (⟨8 * (peer c d).val + (x 0).val, by have h : (x 0).val < 8 := (x 0).isLt; have h' : (peer c d).val < 32 := (peer c d).isLt; omega⟩ : Fin 256) (x 1) : S256x512.Idx) := by
  funext a
  match a with
  | ⟨0, _⟩ => exact Fin.ext ((congrArg (· + 1 * (x 0).val) (off1_zero c d)).trans (by rw [Nat.one_mul]))
  | ⟨1, _⟩ => exact Fin.ext ((congrArg (· + 1 * (x 1).val) (off1_one c d)).trans (by rw [Nat.one_mul, Nat.zero_add]))

/-- Where an element of a device's own rows lies in the result. -/
theorem out_emb (c : Dev nD) (x : S8x512.Idx) :
    (outOf oB c).view.emb x
      = (ix2 (⟨8 * c.val + (x 0).val, by have h : (x 0).val < 8 := (x 0).isLt; have h' : c.val < 32 := c.isLt; omega⟩ : Fin 256) (x 1) : S256x512.Idx) := by
  funext a
  match a with
  | ⟨0, _⟩ => exact Fin.ext ((congrArg (· + 1 * (x 0).val) (off3_zero c)).trans (by rw [Nat.one_mul]))
  | ⟨1, _⟩ => exact Fin.ext ((congrArg (· + 1 * (x 1).val) (off3_one c)).trans (by rw [Nat.one_mul, Nat.zero_add]))

/-- Where an element of a slot lies in the gathering buffer. -/
theorem slot_emb (d : Fin 32) (x : S8x512.Idx) : (slotOf aB d).view.emb x = (ix3 d (x 0) (x 1) : S32x8x512.Idx) := by
  have e : Shape.reshapeEquiv squeezes_S1x8x512_S8x512.numel_eq x = (Fin.cons ⟨0, Nat.one_pos⟩ x : S1x8x512.Idx) :=
    Shape.reshapeEquiv_cons_one _ x
  show (Rect.unit (s := S32x8x512) ![d.val, 0, 0] S1x8x512.size (inb_slot d)).emb (Shape.reshapeEquiv squeezes_S1x8x512_S8x512.numel_eq x) = _
  rw [e]
  funext a
  match a with
  | ⟨0, _⟩ => exact Fin.ext (by show d.val + 1 * 0 = d.val; omega)
  | ⟨1, _⟩ => exact Fin.ext (by show 0 + 1 * (x 0).val = (x 0).val; omega)
  | ⟨2, _⟩ => exact Fin.ext (by show 0 + 1 * (x 1).val = (x 1).val; omega)

/-! ## What the buffers hold -/

variable (m : (ℓ : Loc nD τ sig) → Buf (Elt F) ℓ)

/-- The five inputs of device `c`. -/
def xOf (c : Dev nD) : Vec F S2x128x512 .bf16 := m ((c : Thread nD τ).loc main_arg0)
def wqOf (c : Dev nD) : Vec F S512x256 .bf16 := m ((c : Thread nD τ).loc main_arg1)
def kOf (c : Dev nD) : Vec F S2x128x4x64 .bf16 := m ((c : Thread nD τ).loc main_arg2)
def vOf (c : Dev nD) : Vec F S2x128x4x64 .bf16 := m ((c : Thread nD τ).loc main_arg3)
def woOf (c : Dev nD) : Vec F S256x512 .bf16 := m ((c : Thread nD τ).loc main_arg4)

/-- The queries of device `c`. -/
def qOf (c : Dev nD) : Vec F S256x256 .bf16 := k0_pay1 (xOf m c) (wqOf m c)

/-- The context of device `c`'s pair `p`. -/
def hdOf (c : Dev nD) (p : Fin 2 × Fin 4) : Vec F S128x64 .bf16 :=
  headOut (qB.view.readAt (Elt F) (hdRect p).toLoadRect (qOf m c)) (kB.view.readAt (Elt F) (kvRect p).toLoadRect (kOf m c))
    (vB.view.readAt (Elt F) (kvRect p).toLoadRect (vOf m c))

/-- The context of device `c`: pair `(b, h)` at rows `128 b …` and columns `64 h …`. -/
def ctxOf (c : Dev nD) : Vec F S256x256 .bf16 := fun i =>
  hdOf m c (⟨(i 0).val / 128, by have h : (i 0).val < 256 := (i 0).isLt; omega⟩, ⟨(i 1).val / 64, by have h : (i 1).val < 256 := (i 1).isLt; omega⟩)
    (ix2 (⟨(i 0).val % 128, Nat.mod_lt _ (by decide)⟩ : Fin 128) (⟨(i 1).val % 64, Nat.mod_lt _ (by decide)⟩ : Fin 64))

/-- The partial product of device `c`. -/
def yOf (c : Dev nD) : Vec F S256x512 .f32 := k0_pay17 (ctxOf m c) (woOf m c)

/-- What device `c` gathers: in slot `d` the rows of its partner's partial product that belong to `c`. -/
def accOf (c : Dev nD) : Vec F S32x8x512 .f32 := fun i =>
  yOf m (peer c (i 0)) (ix2 (⟨8 * c.val + (i 1).val, by have h : (i 1).val < 8 := (i 1).isLt; have h' : c.val < 32 := c.isLt; omega⟩ : Fin 256) (i 2))

/-- The rows device `c` sums. -/
def totOf (c : Dev nD) : Vec F S8x512 .f32 := k0_pay19 (accOf m c)

/-- The result, the same on every device. -/
def finOf : Vec F S256x512 .f32 := fun i =>
  totOf m (⟨(i 0).val / 8, by have h : (i 0).val < 256 := (i 0).isLt; show _ < 32; omega⟩ : Fin 32)
    (ix2 (⟨(i 0).val % 8, Nat.mod_lt _ (by decide)⟩ : Fin 8) (i 1))

/-! ## What the copies and the stores leave -/

/-- Rows of the partial product of `p := peer c d` that land in slot `d` of `c`: what the slot is to hold. -/
theorem land1 (c : Dev nD) (d : Fin 32) (fd : Vec F S32x8x512 .f32) (i : S32x8x512.Idx) (hi : i ∈ (slotOf aB d).view.set) :
    (slotOf aB d).view.write (Elt F) fd ((rowsOf yB c d).view.read (Elt F) (yOf m c)) Finset.univ i = accOf m (peer c d) i := by
  obtain ⟨x, -, rfl⟩ := Finset.mem_map.mp hi
  refine (View.write_emb_of_mem (v := (slotOf aB d).view) (Val := Elt F) fd _ (Finset.mem_univ x)).trans ?_
  show yOf m c ((rowsOf yB c d).view.emb x) = accOf m (peer c d) ((slotOf aB d).view.emb x)
  rw [rows_emb, slot_emb]
  show _ = yOf m (peer (peer c d) d) _
  rw [peer_peer]

/-- The rows of the result of `c` that land on the partner: what they are to hold. -/
theorem land2 (c : Dev nD) (fd : Vec F S256x512 .f32) (i : S256x512.Idx) (hi : i ∈ (outOf oB c).view.set) :
    (outOf oB c).view.write (Elt F) fd ((outOf oB c).view.read (Elt F) (finOf m)) Finset.univ i = finOf m i := by
  obtain ⟨x, -, rfl⟩ := Finset.mem_map.mp hi
  exact View.write_emb_of_mem (v := (outOf oB c).view) (Val := Elt F) fd _ (Finset.mem_univ x)

/-- The own rows are the rows sent at shift 0. -/
theorem off2_eq_off1 : ∀ (c : Dev nD) (a : Fin 2), k0_off2 c a = k0_off1 c (BitVec.ofNat 32 (0 : Fin 32).val) a := by decide +kernel
/-- The loads and the copies agree on the own rows. -/
theorem off2_eq_off3 : ∀ (c : Dev nD) (a : Fin 2), k0_off2 c a = k0_off3 c a := by decide +kernel

/-- The rectangle of slot 0. -/
abbrev slot0Rect : Rect S32x8x512 := Rect.unit (s := S32x8x512) ![0, 0, 0] S1x8x512.size inb_S32x8x512_S1x8x512_0_0_0
/-- The rectangle of device `c`'s own rows. -/
abbrev ownRect (c : Dev nD) : Rect S256x512 := Rect.unit (s := S256x512) (k0_off2 c) S8x512.size (k0_off2_inb c)

/-- Where an element of the own rows lies, as the loads and stores read them. -/
theorem own_emb (c : Dev nD) (x : S8x512.Idx) :
    (ownRect c).emb x
      = (ix2 (⟨8 * c.val + (x 0).val, by have h : (x 0).val < 8 := (x 0).isLt; have h' : c.val < 32 := c.isLt; omega⟩ : Fin 256) (x 1) : S256x512.Idx) := by
  funext a
  match a with
  | ⟨0, _⟩ => exact Fin.ext ((congrArg (· + 1 * (x 0).val) (off2_zero c)).trans (by rw [Nat.one_mul]))
  | ⟨1, _⟩ => exact Fin.ext ((congrArg (· + 1 * (x 1).val) (off2_one c)).trans (by rw [Nat.one_mul, Nat.zero_add]))

/-- The own rectangle is the rows the device owns. -/
theorem mem_own (c : Dev nD) (i : S256x512.Idx) : i ∈ (ownRect c).set ↔ (i 0).val / 8 = c.val := by
  refine Rect.mem_set_unit.trans ⟨fun h => ?_, fun h a => ?_⟩
  · have h0 := h 0
    rw [off2_zero] at h0
    have e : S8x512.size 0 = 8 := rfl
    rw [e] at h0
    omega
  · match a with
    | ⟨0, _⟩ =>
      show k0_off2 c 0 ≤ (i 0).val ∧ (i 0).val < k0_off2 c 0 + 8
      rw [off2_zero]; omega
    | ⟨1, _⟩ =>
      show k0_off2 c 1 ≤ (i 1).val ∧ (i 1).val < k0_off2 c 1 + 512
      rw [off2_one]; exact ⟨Nat.zero_le _, by have := (i 1).isLt; rw [Nat.zero_add]; exact this⟩

/-- The load of the own rows touches exactly the rows kept at shift 0. -/
theorem own_set_y (c : Dev nD) : (yB.access (ownRect c)).set = (rowsOf yB c 0).view.set :=
  (View.set_slice_whole cc0_scratch2 _).trans (Finset.ext fun i => (mem_own c i).trans (by rw [mem_rows, peer_zero]))
/-- The store of the sum touches exactly the own rows of the result. -/
theorem own_set_o (c : Dev nD) : (oB.access (ownRect c)).set = (outOf oB c).view.set :=
  (View.set_slice_whole cc0_stg5_0 _).trans (Finset.ext fun i => (mem_own c i).trans (mem_out c i).symm)
/-- The store into slot 0 touches exactly slot 0. -/
theorem own_set_a : (aB.access slot0Rect).set = (slotOf aB 0).view.set :=
  (View.set_slice_whole cc0_scratch3 _).trans ((View.set_reshape _ _).trans (View.set_slice_whole cc0_scratch3 _)).symm

/-- What the store of the device's own rows leaves in slot 0. -/
theorem land0 (c : Dev nD) (f : Vec F S32x8x512 .f32) (i : S32x8x512.Idx) (hi : i ∈ (slotOf aB 0).view.set) :
    (aB.access slot0Rect).write (Elt F) f (k0_pay18 (yB.view.readAt (Elt F) (ownRect c).toLoadRect (yOf m c))) Finset.univ i = accOf m c i := by
  obtain ⟨x, -, rfl⟩ := Finset.mem_map.mp hi
  have e : (slotOf aB 0).view.emb x = (aB.access slot0Rect).emb (Shape.reshapeEquiv squeezes_S1x8x512_S8x512.numel_eq x) := rfl
  have key : ∀ v : Vec F S8x512 .f32, (aB.access slot0Rect).write (Elt F) f (k0_pay18 v) Finset.univ ((slotOf aB 0).view.emb x) = v x := fun v => by
    rw [e]
    refine (View.write_emb_of_mem (v := aB.access slot0Rect) (Val := Elt F) f _ (Finset.mem_univ _)).trans ?_
    show v (Shape.reshapeEquiv _ (Shape.reshapeEquiv _ x)) = v x
    rw [Shape.reshapeEquiv_reshapeEquiv, Shape.reshapeEquiv_self]
  rw [key, slot_emb]
  show yOf m c ((ownRect c).emb x) = yOf m (peer c 0) _
  rw [own_emb, peer_zero]

/-- What the store of the sum leaves in the device's rows of the result. -/
theorem landSum (c : Dev nD) (f : Vec F S256x512 .f32) (i : S256x512.Idx) (hi : i ∈ (outOf oB c).view.set) :
    (oB.access (ownRect c)).write (Elt F) f (k0_pay19 (accOf m c)) Finset.univ i = finOf m i := by
  obtain ⟨x, -, rfl⟩ := Finset.mem_map.mp hi
  have e : (outOf oB c).view.emb x = (oB.access (ownRect c)).emb x := (out_emb c x).trans (own_emb c x).symm
  have h : (x 0).val < 8 := (x 0).isLt
  have h' : c.val < 32 := c.isLt
  have key : (oB.access (ownRect c)).write (Elt F) f (k0_pay19 (accOf m c)) Finset.univ ((outOf oB c).view.emb x) = totOf m c x := by
    rw [e]
    exact View.write_emb_of_mem (v := oB.access (ownRect c)) (Val := Elt F) f _ (Finset.mem_univ _)
  rw [key, out_emb]
  have e0 : (⟨(8 * c.val + (x 0).val) / 8, by show _ < 32; omega⟩ : Fin 32) = c := Fin.ext (by show (8 * c.val + (x 0).val) / 8 = c.val; omega)
  have e1 : (⟨(8 * c.val + (x 0).val) % 8, Nat.mod_lt _ (by decide)⟩ : Fin 8) = x 0 := Fin.ext (by show (8 * c.val + (x 0).val) % 8 = (x 0).val; omega)
  show totOf m c x = totOf m (⟨(8 * c.val + (x 0).val) / 8, _⟩ : Fin 32) (ix2 (⟨(8 * c.val + (x 0).val) % 8, _⟩ : Fin 8) (x 1))
  rw [e0, e1]
  exact congrArg _ (eq_ix2 x)

/-- A buffer that has every pair's context where the pair writes it is the context. -/
theorem ctx_eq (c : Dev nD) (f : Vec F S256x256 .bf16) (h : ∀ p x, f ((hdRect p).emb x) = hdOf m c p x) : f = ctxOf m c := by
  funext i
  have h0 : (i 0).val < 256 := (i 0).isLt
  have h1 : (i 1).val < 256 := (i 1).isLt
  have e := h (⟨(i 0).val / 128, by omega⟩, ⟨(i 1).val / 64, by omega⟩) (ix2 (⟨(i 0).val % 128, Nat.mod_lt _ (by decide)⟩ : Fin 128) (⟨(i 1).val % 64, Nat.mod_lt _ (by decide)⟩ : Fin 64))
  refine Eq.trans (congrArg f ?_) e
  funext a
  match a with
  | ⟨0, _⟩ => exact Fin.ext (by show (i 0).val = 128 * ((i 0).val / 128) + 1 * ((i 0).val % 128); omega)
  | ⟨1, _⟩ => exact Fin.ext (by show (i 1).val = 64 * ((i 1).val / 64) + 1 * ((i 1).val % 64); omega)

/-- Two pairs write apart. -/
theorem hd_apart {p p' : Fin 2 × Fin 4} (h : p ≠ p') (x y : S128x64.Idx) : (hdRect p).emb x ≠ (hdRect p').emb y := fun e => h <| by
  have hx0 : (x 0).val < 128 := (x 0).isLt
  have hx1 : (x 1).val < 64 := (x 1).isLt
  have hy0 : (y 0).val < 128 := (y 0).isLt
  have hy1 : (y 1).val < 64 := (y 1).isLt
  have e0 : 128 * p.1.val + 1 * (x 0).val = 128 * p'.1.val + 1 * (y 0).val := congrArg (fun i : S256x256.Idx => (i 0).val) e
  have e1 : 64 * p.2.val + 1 * (x 1).val = 64 * p'.2.val + 1 * (y 1).val := congrArg (fun i : S256x256.Idx => (i 1).val) e
  exact Prod.ext (Fin.ext (by omega)) (Fin.ext (by omega))

/-- One pair's store: its own context is there, and the others' stay. -/
theorem hd_store (c : Dev nD) (p : Fin 2 × Fin 4) (f : Vec F S256x256 .bf16) (P : Fin 2 × Fin 4 → Prop)
    (h : ∀ p', P p' → ∀ x, f ((hdRect p').emb x) = hdOf m c p' x) :
    ∀ p', p' = p ∨ P p' → ∀ x, (cB.access (hdRect p)).write (Elt F) f (hdOf m c p) Finset.univ ((hdRect p').emb x) = hdOf m c p' x := by
  intro p' hp x
  by_cases e : p' = p
  · subst e
    exact View.write_emb_of_mem (v := cB.access (hdRect p')) (Val := Elt F) f _ (Finset.mem_univ _)
  · refine (View.write_of_not_mem (v := cB.access (hdRect p)) (Val := Elt F) f _ _ fun hm => ?_).trans (h p' (hp.resolve_left e) x)
    obtain ⟨y, -, hy⟩ := Finset.mem_map.mp hm
    exact hd_apart (fun h => e h.symm) y x hy

end Cert.KernelIdeal.Mesh

end
-- ==== Proof.Ideal.Schedule.lean ====
module

public import proofs.«01_k».proof.Proof.Ideal.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

/-! The protocol: one round on each of a device's 129 semaphores. On the barrier semaphore each of the 31
partners pays one unit and hands over the slot of its gathering buffer and the rows of its result that the
device will write. On a receive semaphore the partner pays the credit of a block, and the block comes with it;
on a send semaphore the device pays itself, and its source comes back. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resources -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Lists of shifts -/

section Lists
variable {M : Type} [URA M]

/-- A separating product along a list. -/
def sepL {β : Type} (Φ : β → sProp M) : List β → sProp M
  | [] => iprop(emp)
  | d :: l => iprop(Φ d ∗ sepL Φ l)

/-- A product along a list without repetition is the product over its elements. -/
theorem sepL_toFinset {β : Type} [DecidableEq β] (Φ : β → sProp M) : ∀ l : List β, l.Nodup → bigSep l.toFinset Φ = sepL Φ l
  | [], _ => rfl
  | d :: l, h => by
    rw [List.toFinset_cons, bigSep_insert (fun hm => (List.nodup_cons.mp h).1 (List.mem_toFinset.mp hm)), sepL_toFinset Φ l (List.nodup_cons.mp h).2]
    rfl

/-- A product along a list is monotone. -/
theorem sepL_mono {β : Type} {Φ Ψ : β → sProp M} : ∀ {l : List β}, (∀ d ∈ l, Φ d ⊢ Ψ d) → (sepL Φ l ⊢ sepL Ψ l)
  | [], _ => .rfl
  | d :: l, h => BIClass.sep_mono (h d (List.mem_cons_self ..)) (sepL_mono fun e he => h e (List.mem_cons_of_mem _ he))

/-- All the devices' shifts but 0. -/
abbrev offs : Finset (Fin 32) := Finset.univ.erase 0

/-- The listed shifts are the nonzero ones. -/
theorem shifts_toFinset : shifts.toFinset = offs := by decide
/-- No shift is listed twice. -/
theorem shifts_nodup : shifts.Nodup := by decide
/-- A product over the nonzero shifts, along their list. -/
theorem sepL_shifts (Φ : Fin 32 → sProp M) : bigSep offs Φ = sepL Φ shifts := by
  rw [← shifts_toFinset, sepL_toFinset Φ shifts shifts_nodup]
/-- A product over all shifts is the factor at zero and the product along the list. -/
theorem bigSep_shifts (Φ : Fin 32 → sProp M) : bigSep Finset.univ Φ = iprop(Φ 0 ∗ sepL Φ shifts) := by
  rw [← sepL_shifts, bigSep_erase (Finset.mem_univ 0)]; rfl
end Lists

/-- A tail of the list of shifts: its first shift is not 0 and its length tells which it is. -/
def Tail : List (Fin 32) → Prop
  | [] => True
  | d :: l => d ≠ 0 ∧ d.val + l.length = 31 ∧ Tail l

/-- The list of all shifts is one of distinct shifts. -/
theorem tail_shifts : Tail shifts := by
  unfold shifts; simp only [Tail]; decide

/-! ## Cells -/

/-- The four arrays of semaphores: first exchange sent, received, second exchange sent, received. -/
abbrev arrOf : Fin 4 → DmaSems sig S32 := fun | 0 => cc0_scratch4 | 1 => cc0_scratch5 | 2 => cc0_scratch6 | 3 => cc0_scratch7

/-- Semaphore `d` of array `k`. -/
abbrev dsem (k : Fin 4) (d : Fin 32) : DmaSem sig := semOf (arrOf k) d

/-- Which of the protocol's semaphores: `none` the barrier, else the array and the shift. -/
abbrev Cell : Type := Option (Fin 4 × Fin 32)

def code : SemLoc sig → Option Cell
  | .reg s => if s = barSem then some none else none
  | .dma s => if 6 ≤ s.val then some (some (Fin.ofNat 4 ((s.val - 6) / 32), Fin.ofNat 32 ((s.val - 6) % 32))) else none

/-- The semaphore of a cell. -/
abbrev csem : Cell → SemLoc sig
  | none => .reg barSem
  | some kd => .dma (dsem kd.1 kd.2)

/-- The code of a copy's semaphore. -/
theorem code_dma : ∀ (k : Fin 4) (d : Fin 32), code (.dma (dsem k d)) = some (some (k, d)) := by decide +kernel
/-- A semaphore's code is the code it was named by. -/
theorem code_csem : ∀ x : Cell, code (csem x) = some x
  | none => by unfold code csem; exact if_pos rfl
  | some (k, d) => code_dma k d

abbrev cell (c : Dev nD) (x : Cell) : GSem nD τ sig := ((c : Thread nD τ), csem x)
abbrev barCell (c : Dev nD) : GSem nD τ sig := ((c : Thread nD τ), .reg barSem)
abbrev dCell (c : Dev nD) (k : Fin 4) (d : Fin 32) : GSem nD τ sig := ((c : Thread nD τ), .dma (dsem k d))

/-- A cell determines its device and its code. -/
theorem cell_inj {c c' : Dev nD} {x x' : Cell} (h : cell c x = cell c' x') : c = c' ∧ x = x' := by
  refine ⟨congrArg (fun g : GSem nD τ sig => g.1.1) h, ?_⟩
  have e := congrArg (fun g : GSem nD τ sig => code g.2) h
  have e' : code (csem x) = code (csem x') := e
  rw [code_csem, code_csem] at e'
  exact Option.some.inj e'

/-- The credit of a block of 8 × 512. -/
abbrev N : ℕ := (outOf oB 0).view.dmaCredit
/-- The credit of a block is positive. -/
theorem N_pos : 0 < N := View.dmaCredit_pos _ (by decide)

/-! ## The blocks handed over -/

variable (m : (ℓ : Loc nD τ sig) → Buf (Elt F) ℓ)

/-- Slot `d` of device `c`'s gathering buffer. -/
def slotP (c : Dev nD) (d : Fin 32) (f : Vec F S32x8x512 .f32) : sProp 𝕄 :=
  (slotOf aB d).view.loc (c : Thread nD τ) ↦[(slotOf aB d).view.set]{fullShare} f
/-- The rows of device `c`'s partial product that belong to its partner at shift `d`. -/
def rowsP (c : Dev nD) (d : Fin 32) (f : Vec F S256x512 .f32) : sProp 𝕄 :=
  (rowsOf yB c d).view.loc (c : Thread nD τ) ↦[(rowsOf yB c d).view.set]{fullShare} f
/-- On device `p`, a share of the rows of the result that `c` sums. -/
def outP (q : PosShare TreeShare) (p c : Dev nD) (f : Vec F S256x512 .f32) : sProp 𝕄 :=
  (outOf oB c).view.loc (p : Thread nD τ) ↦[(outOf oB c).view.set]{q} f

omit [FloatOps F] in
instance slotP_storable (c : Dev nD) (d : Fin 32) (f) : BI.Storable (upEmb : UEmb _ 𝕄) (slotP (F := F) c d f) := by unfold slotP; infer_instance
omit [FloatOps F] in
instance rowsP_storable (c : Dev nD) (d : Fin 32) (f) : BI.Storable (upEmb : UEmb _ 𝕄) (rowsP (F := F) c d f) := by unfold rowsP; infer_instance
omit [FloatOps F] in
instance outP_storable (q) (p c : Dev nD) (f) : BI.Storable (upEmb : UEmb _ 𝕄) (outP (F := F) q p c f) := by unfold outP; infer_instance

/-- What is left of a share after `n` halvings. -/
def rt : ℕ → PosShare TreeShare
  | 0 => fullShare
  | n + 1 => (rt n).right
/-- The share of its own rows that a device gives to the send of shift `d`. -/
def piece (d : Fin 32) : PosShare TreeShare := (rt (d.val - 1)).left

/-- What partner `peer c d` hands over at the entry of device `c`. -/
def barPay (c : Dev nD) (d : Fin 32) : sProp 𝕄 :=
  iprop((∃ f : Vec F S32x8x512 .f32, slotP (peer c d) d f) ∗ (∃ f : Vec F S256x512 .f32, outP fullShare (peer c d) c f))

/-- What a copy hands over on device `c`'s semaphore `d` of array `k`. -/
def dmaPay (c : Dev nD) (k : Fin 4) (d : Fin 32) : sProp 𝕄 :=
  match k with
  | 0 => rowsP c d (yOf m c)
  | 1 => slotP c d (accOf m c)
  | 2 => outP (piece d) c c (finOf m)
  | 3 => outP fullShare c (peer c d) (finOf m)

instance barPay_storable (c : Dev nD) (d : Fin 32) : BI.Storable (upEmb : UEmb _ 𝕄) (barPay (F := F) c d) := by unfold barPay; infer_instance
instance dmaPay_storable (c : Dev nD) (k : Fin 4) (d : Fin 32) : BI.Storable (upEmb : UEmb _ 𝕄) (dmaPay m c k d) := by
  unfold dmaPay; split <;> infer_instance

/-! ## The schedule -/

/-- The payers of a cell: the 31 partners of the barrier, one of a copy's semaphore. -/
def payers : Option Cell → Finset (Fin 32)
  | some none => offs
  | some (some kd) => if kd.2 = 0 then ∅ else {0}
  | none => ∅

/-- What a payer hands over. -/
def payOf (c : Dev nD) (d : Fin 32) : Option Cell → sProp 𝕄
  | some none => barPay c d
  | some (some kd) => dmaPay m c kd.1 kd.2
  | none => iprop(emp)

instance payOf_storable (c : Dev nD) (d : Fin 32) (x : Option Cell) : BI.Storable (upEmb : UEmb _ 𝕄) (payOf m c d x) := by
  unfold payOf; split <;> infer_instance

/-- One round on every cell. -/
def sched : Rounds.Schedule (GSem nD τ sig) (Fin 32) 𝕄 where
  duties g r := if r = 0 ∧ g.1.2 = .tc then payers (code g.2) else ∅
  unitless _ := False
  amount g _ _ := if g.2 = .reg barSem then 1 else N
  payload g _ d := payOf m g.1.1 d (code g.2)
  amount_pos g _ _ _ := by
    by_cases h : g.2 = .reg barSem
    · rw [if_pos h]; exact Nat.one_pos
    · rw [if_neg h]; exact N_pos

instance sched_storable (g : GSem nD τ sig) (r : ℕ) (d : Fin 32) : BI.Storable (upEmb : UEmb _ 𝕄) ((sched (F := F) m).payload g r d) := by
  show BI.Storable upEmb (payOf m g.1.1 d (code g.2)); infer_instance

/-- Who pays a cell. -/
theorem duties_cell (c : Dev nD) (x : Cell) : (sched (F := F) m).duties (cell c x) 0 = payers (some x) := by
  dsimp only [sched]; rw [code_csem]; exact if_pos ⟨rfl, rfl⟩
/-- Who pays a barrier: every nonzero shift. -/
theorem duties_bar (c : Dev nD) : (sched (F := F) m).duties (barCell c) 0 = offs := duties_cell m c none
/-- Who pays a copy's cell: one payer, unless its number is zero. -/
theorem duties_dma (c : Dev nD) (k : Fin 4) (d : Fin 32) : (sched (F := F) m).duties (dCell c k d) 0 = if d = 0 then ∅ else {0} :=
  duties_cell m c (some (k, d))
/-- Nobody pays after the first round. -/
theorem duties_later (g : GSem nD τ sig) : ∀ r, 1 ≤ r → (sched (F := F) m).duties g r = ∅ :=
  fun r hr => by dsimp only [sched]; exact if_neg fun h => by omega
/-- Nobody ever pays cell 0 of an array. -/
theorem duties_none (c : Dev nD) (k : Fin 4) : ∀ r, 0 ≤ r → (sched (F := F) m).duties (dCell c k 0) r = ∅ := fun r _ => by
  rcases Nat.eq_zero_or_pos r with rfl | h
  · rw [duties_dma]; exact if_pos rfl
  · exact duties_later m _ r h

/-- A partner pays the barrier. -/
theorem duty_bar (c : Dev nD) {d : Fin 32} (h : d ≠ 0) : d ∈ (sched (F := F) m).duties (barCell c) 0 := by
  rw [duties_bar]; exact Finset.mem_erase.mpr ⟨h, Finset.mem_univ d⟩
/-- A copy's cell has its payer. -/
theorem duty_dma (c : Dev nD) (k : Fin 4) {d : Fin 32} (h : d ≠ 0) : (0 : Fin 32) ∈ (sched (F := F) m).duties (dCell c k d) 0 := by
  rw [duties_dma, if_neg h]; exact Finset.mem_singleton_self _

/-- A barrier's payer pays one unit. -/
theorem amount_bar (c : Dev nD) (d : Fin 32) : (sched (F := F) m).amount (barCell c) 0 d = 1 := by dsimp only [sched]; exact if_pos rfl
/-- A copy pays the credit of a block. -/
theorem amount_dma (c : Dev nD) (k : Fin 4) (d e : Fin 32) : (sched (F := F) m).amount (dCell c k d) 0 e = N := by
  dsimp only [sched]; exact if_neg fun h => by cases h

/-- A barrier expects 31 units. -/
theorem expect_bar (c : Dev nD) : (sched (F := F) m).expect (barCell c) 0 = 31 := by
  unfold Schedule.expect Schedule.amountOf
  rw [duties_bar, Finset.sum_congr rfl fun d _ => amount_bar m c d, Finset.sum_const]
  decide
/-- A copy's cell expects the credit of a block. -/
theorem expect_dma (c : Dev nD) (k : Fin 4) {d : Fin 32} (h : d ≠ 0) : (sched (F := F) m).expect (dCell c k d) 0 = N := by
  unfold Schedule.expect Schedule.amountOf
  rw [duties_dma, if_neg h, Finset.sum_singleton, amount_dma]

/-- What a partner hands over on the barrier. -/
theorem payload_bar (c : Dev nD) (d : Fin 32) : (sched (F := F) m).payload (barCell c) 0 d = barPay c d :=
  congrArg (payOf m c d) (code_csem none)
/-- What a copy hands over. -/
theorem payload_dma (c : Dev nD) (k : Fin 4) (d e : Fin 32) : (sched (F := F) m).payload (dCell c k d) 0 e = dmaPay m c k d :=
  congrArg (payOf m c e) (code_dma k d)

/-- All that a barrier hands over. -/
theorem rest_bar (c : Dev nD) : bigSep ((sched (F := F) m).duties (barCell c) 0 \ ∅) (fun d => (sched (F := F) m).payload (barCell c) 0 d)
    = sepL (fun d => barPay (F := F) c d) shifts := by
  rw [Finset.sdiff_empty, duties_bar, ← sepL_shifts]
  exact bigSep_congr fun d _ => payload_bar m c d
/-- All that a copy's cell hands over. -/
theorem rest_dma (c : Dev nD) (k : Fin 4) {d : Fin 32} (h : d ≠ 0) :
    bigSep ((sched (F := F) m).duties (dCell c k d) 0 \ ∅) (fun e => (sched (F := F) m).payload (dCell c k d) 0 e) = dmaPay m c k d := by
  rw [Finset.sdiff_empty, duties_dma, if_neg h, bigSep_singleton, payload_dma]

/-! ## What each device owes, and the order of the waits -/

/-- Debts along a list, the first on top. -/
def owL (t : Fin 32 → CellTallies nD τ sig Unit) (rest : CellTallies nD τ sig Unit) : List (Fin 32) → CellTallies nD τ sig Unit
  | [] => rest
  | d :: l => owL t rest l + t d

/-- Device `c`'s debts to its partner at shift `d`: one barrier unit, one block of each exchange. -/
def tBar (c : Dev nD) (d : Fin 32) : CellTallies nD τ sig Unit := tallyAt (barCell (peer c d)) () 1
def tOne (c : Dev nD) (d : Fin 32) : CellTallies nD τ sig Unit := tallyAt (dCell (peer c d) 1 d) () N
def tTwo (c : Dev nD) (d : Fin 32) : CellTallies nD τ sig Unit := tallyAt (dCell (peer c d) 3 d) () N

/-- The debts once the first exchange is sent, once the barrier is signalled, at the start. -/
def O₂ (c : Dev nD) : CellTallies nD τ sig Unit := owL (tTwo c) 0 shifts
def O₁ (c : Dev nD) : CellTallies nD τ sig Unit := owL (tOne c) (O₂ c) shifts
def O₀ (c : Dev nD) : CellTallies nD τ sig Unit := owL (tBar c) (O₁ c) shifts

def L (g : GSem nD τ sig) : Finset Unit := if g.1.2 = .tc then {()} else ∅
/-- The barrier at 1, the receives of the first exchange at 2, of the second at 3, all else at 0. -/
def lvOf : Option Cell → ℕ
  | some none => 1
  | some (some kd) => if kd.1 = 1 then 2 else if kd.1 = 3 then 3 else 0
  | none => 0
def lv (g : GSem nD τ sig) (_ : Unit) : ℕ := lvOf (code g.2)

/-- Only a device's main thread has levels. -/
theorem L_of_ne (g : GSem nD τ sig) (h : g.1.2 ≠ .tc) : L g = ∅ := if_neg h
/-- A main thread's cells have a level. -/
theorem L_tc (c : Dev nD) (sm : SemLoc sig) : L ((c : Thread nD τ), sm) = {()} := if_pos rfl

/-- Debts only to cells of a level over `n`. -/
def Above (n : ℕ) (O : CellTallies nD τ sig Unit) : Prop := ∀ g u, 0 < O g u → g.1.2 = .tc ∧ n < lv g u

/-- Owing nothing is above every level. -/
theorem above_zero (n : ℕ) : Above n 0 := fun g u h => absurd h (Nat.lt_irrefl 0)
/-- A debt to one cell is above every level below the cell's. -/
theorem above_tally (n : ℕ) (c : Dev nD) (x : Cell) (k : ℕ) (h : n < lvOf (some x)) : Above n (tallyAt (cell c x) () k) := fun g u hg => by
  rw [tallyAt_apply] at hg
  by_cases e : g = cell c x ∧ u = ()
  · rw [e.1]; refine ⟨rfl, ?_⟩; unfold lv; rw [code_csem]; exact h
  · rw [if_neg e] at hg; exact absurd hg (Nat.lt_irrefl 0)
/-- Debts along a list are above a level when each is. -/
theorem above_owL (n : ℕ) (t : Fin 32 → CellTallies nD τ sig Unit) (rest : CellTallies nD τ sig Unit) (ht : ∀ d, Above n (t d)) (hr : Above n rest) :
    ∀ l, Above n (owL t rest l)
  | [] => hr
  | d :: l => fun g u hg => by
    unfold owL at hg
    rw [Pi.add_apply, Finsupp.add_apply] at hg
    rcases Nat.eq_zero_or_pos (owL t rest l g u) with h | h
    · exact ht d g u (by omega)
    · exact above_owL n t rest ht hr l g u h

/-- The second exchange's debts are above the first exchange's cells. -/
theorem above_O₂ (c : Dev nD) (l : List (Fin 32)) : Above 2 (owL (tTwo c) 0 l) :=
  above_owL 2 _ _ (fun d => above_tally 2 _ (some (3, d)) _ (by show 2 < 3; decide)) (above_zero 2) l
/-- Above a level, hence above a lower one. -/
theorem Above.mono {n k : ℕ} (h : k ≤ n) {O : CellTallies nD τ sig Unit} (hO : Above n O) : Above k O := fun g u hg => ⟨(hO g u hg).1, lt_of_le_of_lt h (hO g u hg).2⟩
/-- The exchanges' debts are above the barrier. -/
theorem above_O₁ (c : Dev nD) (l : List (Fin 32)) : Above 1 (owL (tOne c) (O₂ c) l) :=
  above_owL 1 _ _ (fun d => above_tally 1 _ (some (1, d)) _ (by show 1 < 2; decide)) ((above_O₂ c shifts).mono (by decide)) l
/-- All the debts are above the staging copies. -/
theorem above_O₀ (c : Dev nD) (l : List (Fin 32)) : Above 0 (owL (tBar c) (O₁ c) l) :=
  above_owL 0 _ _ (fun d => above_tally 0 _ none _ (by show 0 < 1; decide)) ((above_O₁ c shifts).mono (by decide)) l

omit [FloatOps F] in
/-- A wait on a cell of level at most `n` under debts over `n`. -/
theorem mayWait_above (c : Dev nD) (sm : SemLoc sig) (n : ℕ) (O : CellTallies nD τ sig Unit) (hs : lvOf (code sm) ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton.mpr rfl)
    (fun p hp => by rw [Finset.mem_singleton.mp hp]; exact hs)
    (fun g u hg => (hO g u hg).2)

end Cert.KernelIdeal.Mesh

end
-- ==== Proof.Ideal.Steps.lean ====
module

public import proofs.«01_k».proof.Proof.Ideal.Schedule

@[expose] public section

set_option synthInstance.maxSize 4096

/-! Each loop of the body, run under the protocol. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A program of device `c` run to a state. -/
abbrev Wp (c : Dev nD) (p : Pr F) (Q : sProp 𝕄) : sProp 𝕄 :=
  wp frame (wpE (defs₀ (F := F)) 𝒱₀ (c : Thread nD τ) none) Set.univ p (fun _ => Q)

/-- A part of a program, then the rest. -/
theorem wp_then (c : Dev nD) {a : Pr F} {b : PUnit → Pr F} {P R Q : sProp 𝕄} (h : P ⊢ Wp c a R) :
    iprop(P ∗ (R -∗ Wp c (b ⟨⟩) Q)) ⊢ Wp c (a >>= b) Q := by
  unfold Wp
  rw [wp_bind]
  iintro ⟨HP, Hk⟩
  ihave Ha := h $$ HP
  iapply (wp_wand_r frame (wpE (defs₀ (F := F)) 𝒱₀ (c : Thread nD τ) none) Set.univ (p := a))
  isplitl [Ha]; · iexact Ha
  iintro %u H
  iapply Hk
  iexact H

/-- A loop: each turn spends `Φ` of its shift and makes `Ψ` of it, next to what all turns carry. -/
theorem wp_each (c : Dev nD) {β : Type} (f : β → Pr F) (J : List β → sProp 𝕄) (Φ Ψ : β → sProp 𝕄) (G : List β → Prop)
    (hG : ∀ d l, G (d :: l) → G l) (step : ∀ d l, G (d :: l) → iprop(J (d :: l) ∗ Φ d) ⊢ Wp c (f d) iprop(J l ∗ Ψ d)) :
    ∀ l, G l → (iprop(J l ∗ sepL Φ l) ⊢ Wp c (each f l) iprop(J [] ∗ sepL Ψ l))
  | [], _ => by
    unfold Wp each sepL
    rw [Prog.pure_eq_ret, wp_ret]
    iintro H; imodintro; iexact H
  | d :: l, h => by
    have ih := wp_each c f J Φ Ψ G hG step l (hG d l h)
    unfold each sepL
    iintro ⟨HJ, HΦ, Hs⟩
    iapply (wp_then c (step d l h))
    isplitl [HJ HΦ]
    · isplitl [HJ] <;> iassumption
    iintro ⟨HJ, HΨ⟩
    unfold Wp
    ihave Hr := ih $$ [HJ Hs]
    · isplitl [HJ] <;> iassumption
    iapply (wp_wand_r frame (wpE (defs₀ (F := F)) 𝒱₀ (c : Thread nD τ) none) Set.univ (p := each f l))
    isplitl [Hr]; · iexact Hr
    iintro %u ⟨HJ, Hs⟩
    isplitl [HJ]; · iexact HJ
    isplitl [HΨ] <;> iassumption

variable (m : (ℓ : Loc nD τ sig) → Buf (Elt F) ℓ) (K : Dev nD × Cell → ℕ)

/-- Every cell's invariant, and that its round is open. -/
def records : sProp 𝕄 :=
  bigSep Finset.univ fun cx : Dev nD × Cell => iprop(cellInv ER (sched m) (K cx) (cell cx.1 cx.2) ∗ reached ER (cell cx.1 cx.2) 0)

instance records_persistent : BI.Persistent (records m K) := by unfold records; infer_instance

/-- The record of one cell, out of all. -/
theorem records_at (c : Dev nD) (x : Cell) : records m K ⊢ iprop(cellInv ER (sched m) (K (c, x)) (cell c x) ∗ reached ER (cell c x) 0) := by
  unfold records
  exact bigSep_elim (Finset.mem_univ (c, x))

/-- The record of a barrier. -/
theorem records_bar (c : Dev nD) : records m K ⊢ iprop(cellInv ER (sched m) (K (c, none)) (barCell c) ∗ reached ER (barCell c) 0) := records_at m K c none
/-- The record of a copy's cell. -/
theorem records_dma (c : Dev nD) (k : Fin 4) (d : Fin 32) :
    records m K ⊢ iprop(cellInv ER (sched m) (K (c, some (k, d))) (dCell c k d) ∗ reached ER (dCell c k d) 0) := records_at m K c (some (k, d))

/-- What device `c` owes, whatever it has waited for. -/
def owesX (c : Dev nD) (O : CellTallies nD τ sig Unit) : sProp 𝕄 := iprop(∃ W, owes (c : Thread nD τ) O W)

/-! ## The entry -/

/-- One signal pays one unit of the partner's barrier and hands over the slot and the rows that the partner will write. -/
theorem sig_step (c : Dev nD) (d : Fin 32) (l : List (Fin 32)) (h : Tail (d :: l)) :
    iprop((records m K ∗ owesX c (owL (tBar c) (O₁ c) (d :: l)))
        ∗ dutyTok ER (barCell (peer c d)) 0 d ∗ (∃ f : Vec F S32x8x512 .f32, slotP c d f) ∗ (∃ f : Vec F S256x512 .f32, outP fullShare c (peer c d) f))
      ⊢ Wp c (sigStep c d) iprop((records m K ∗ owesX c (owL (tBar c) (O₁ c) l)) ∗ emp) := by
  unfold Wp sigStep owesX
  simp only [semSignalWord, Prog.lift, Prog.bind_op, Prog.bind_ret, Prog.pure_eq_ret]
  iintro ⟨⟨#HR, ⟨%W, HO⟩⟩, Ht, Hs, Ho⟩
  ihave ⟨#HI, #Hr⟩ := records_bar m K (peer c d) $$ HR
  iapply (Rounds.wp_signal 𝒱₀ ER (sched m) (c : Thread nD τ) none (dst := (peer c d : Thread nD τ)) (κ := K (peer c d, none))
      (d := d) (duty_bar m (peer c d) h.1) ((amount_bar m (peer c d) d).trans (by decide)) () (owL (tBar c) (O₁ c) l) rfl)
    $$ [HO Ht Hs Ho]
  · isplitr; · iexact HI
    isplitl [HO]; · iexact HO
    isplitl [Ht]; · iexact Ht
    isplitl [Hs Ho]
    · rw [payload_bar]; unfold barPay; rw [peer_peer]
      isplitl [Hs] <;> iassumption
    · iexact Hr
  iintro HO
  rw [wp_ret]; imodintro
  isplitl [HO]
  · isplitr; · iexact HR
    iexists W; iexact HO
  · iempintro

/-- The barrier's wait brings what all the partners handed over. -/
theorem bar_wait (c : Dev nD) :
    iprop((records m K ∗ levAts L lv) ∗ owesX c (O₁ c) ∗ cred (tallyAt (barCell c) () 31) ∗ atPos ER (barCell c) 0 ∅ 0)
      ⊢ Wp c (semWaitWord barSem 31#32) iprop(owesX c (O₁ c) ∗ semVal (barCell c) 0 ∗ sepL (fun d => barPay (F := F) c d) shifts) := by
  unfold Wp owesX
  simp only [semWaitWord, Prog.lift, Prog.bind_op, Prog.bind_ret, Prog.pure_eq_ret]
  iintro ⟨⟨#HR, #Hlev⟩, ⟨%W, HO⟩, Hc, Hat⟩
  ihave ⟨#HI, #Hr⟩ := records_bar m K c $$ HR
  iapply (Rounds.wp_wait_rest_token 𝒱₀ ER (sched m) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_above c (.reg barSem) 1 (O₁ c) (by rw [show code (.reg barSem) = some none from code_csem none]; exact le_refl 1) (above_O₁ c shifts)); iexact Hlev
    iexact Hat
  iintro ⟨HO, Hat, -, Hp⟩
  ihave Hp := (Entails.of_eq (rest_bar m c)) $$ Hp
  imod (Rounds.cell_close ER (sched m) (Set.mem_univ (K (c, none))) (fun h => h) (R := 0 + 1) (duties_later m (barCell c))) $$ [Hat] with Hz
  · isplitr; · iexact HI
    iexact Hat
  rw [wp_ret]; imodintro
  isplitl [HO]; · iexists _; iexact HO
  isplitl [Hz] <;> iassumption

/-! ## A wait for a copy -/

/-- A wait on a copy's cell brings what the copy hands over. -/
theorem wait_step (c : Dev nD) (k : Fin 4) (O : CellTallies nD τ sig Unit) (hO : Above (lvOf (some (some (k, 0)))) O)
    (w : Fin 32 → TpuEff nD τ sig (Elt F) Λ₀ .tc PUnit)
    (hw : ∀ d (R : PUnit → sProp 𝕄), wpE (defs₀ (F := F)) 𝒱₀ (c : Thread nD τ) none Set.univ (w d) R = waitSpec (c : Thread nD τ) Set.univ (.dma (dsem k d)) N R)
    (d : Fin 32) (l : List (Fin 32)) (h : Tail (d :: l)) :
    iprop(((records m K ∗ levAts L lv) ∗ owesX c O) ∗ cred (tallyAt (dCell c k d) () N) ∗ atPos ER (dCell c k d) 0 ∅ 0)
      ⊢ Wp c (Prog.lift (w d)) iprop(((records m K ∗ levAts L lv) ∗ owesX c O) ∗ semVal (dCell c k d) 0 ∗ dmaPay m c k d) := by
  unfold Wp owesX
  simp only [Prog.lift]
  iintro ⟨⟨⟨#HR, #Hlev⟩, ⟨%W, HO⟩⟩, Hc, Hat⟩
  ihave ⟨#HI, #Hr⟩ := records_dma m K c k d $$ HR
  iapply (Rounds.wp_wait_rest_token 𝒱₀ ER (sched m) (c : Thread nD τ) none (κ := K (c, some (k, d)))
      (hw d) (Set.mem_univ _) () (O := O) (W := W) (R := 0) (m := 0) (T := ∅)
      (by rw [Nat.zero_add]; exact (expect_dma m c k h.1).symm)) $$ [Hc HO Hat]
  · isplitr; · iexact HI
    isplitl [Hc]; · iexact Hc
    isplitl [HO]; · iexact HO
    isplitr
    · iapply (mayWait_above c (.dma (dsem k d)) _ O (by rw [code_dma]; exact le_refl _) hO); iexact Hlev
    iexact Hat
  iintro ⟨HO, Hat, -, Hp⟩
  ihave Hp := (Entails.of_eq (rest_dma m c k h.1)) $$ Hp
  imod (Rounds.cell_close ER (sched m) (Set.mem_univ (K (c, some (k, d)))) (fun h => h) (R := 0 + 1) (duties_later m (dCell c k d))) $$ [Hat] with Hz
  · isplitr; · iexact HI
    iexact Hat
  rw [wp_ret]; imodintro
  isplitl [HO]
  · isplitr
    · isplitr; · iexact HR
      iexact Hlev
    · iexists _; iexact HO
  isplitl [Hz] <;> iassumption

/-! ## The sends -/

/-- A copy of a block to a device `p`, its two cells in arrays `k` and `k'` at shift `d`. -/
theorem send_rule (c p : Dev nD) (k k' : Fin 4) (d : Fin 32) (h : d ≠ 0) (src dst : Memref sig .tc .vmem S8x512 .f32)
    (hN : dst.view.amount (.dma (dsem k' d)) = N)
    {hsc : (dst : Memref sig (Dev.tc p : Thread nD τ).2.kind .vmem S8x512 .f32).view.ref.isScScratch = false}
    {hsrc : src.view.WordExact} {hdst : dst.view.WordExact}
    {hsem : DmaTarget.Typed .vmem (.dma (dsem k' d)) (.remote (Dev.tc p : Thread nD τ) dst (.dma (dsem k d)) hsc)}
    {q : PosShare TreeShare} (fs : Buf (Elt F) (src.view.loc (c : Thread nD τ))) (fd : Buf (Elt F) (dst.view.loc (p : Thread nD τ)))
    (O : CellTallies nD τ sig Unit) (W : Waits sig Unit)
    (hpay₁ : (src.view.loc (c : Thread nD τ) ↦[src.view.set]{q} fs : sProp 𝕄) ⊢ dmaPay m c k d)
    (hpay₂ : (dst.view.loc (p : Thread nD τ) ↦[dst.view.set]{fullShare} (dst.view.write (Elt F) fd (src.view.read (Elt F) fs) Finset.univ) : sProp 𝕄) ⊢ dmaPay m p k' d)
    (Q : sProp 𝕄) :
    iprop(records m K ∗ (src.view.loc (c : Thread nD τ) ↦[src.view.set]{q} fs) ∗ (dst.view.loc (p : Thread nD τ) ↦[dst.view.set]{fullShare} fd)
        ∗ owes (c : Thread nD τ) (O + tallyAt (dCell p k' d) () N) W ∗ dutyTok ER (dCell c k d) 0 0 ∗ dutyTok ER (dCell p k' d) 0 0
        ∗ ((cred (tallyAt (dCell c k d) () N) ∗ owes (c : Thread nD τ) O W) -∗ Q))
      ⊢ Wp c (Prog.lift (.enqueueDma src (.remote (Dev.tc p : Thread nD τ) dst (.dma (dsem k d)) hsc) (.dma (dsem k' d)) hsrc hdst hsem)) Q := by
  unfold Wp
  simp only [Prog.lift]
  iintro ⟨#HR, Hs, Hd, HO, Ht0, Ht1, Hk⟩
  ihave ⟨#HI0, #Hr0⟩ := records_dma m K c k d $$ HR
  ihave ⟨#HI1, #Hr1⟩ := records_dma m K p k' d $$ HR
  iapply (Rounds.wp_send_pointsTo 𝒱₀ ER (sched m) (c : Thread nD τ) none (κ₁ := K (c, some (k, d))) (κ₂ := K (p, some (k', d)))
    (r₁ := 0) (r₂ := 0) (d₁ := 0) (d₂ := 0) (fd := fd) (fs := fs)
    (duty_dma m c k h) (duty_dma m p k' h)
    () () N hN (amount_dma m c k d 0) (amount_dma m p k' d 0) O rfl (W := W)
    (by rw [payload_dma]; exact hpay₁)
    (by rw [payload_dma]; exact hpay₂)) $$ [HO Hs Hd Ht0 Ht1]
  · isplitr; · iexact HI0
    isplitr; · iexact HI1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro H
  rw [wp_ret]; imodintro
  iapply Hk; iexact H

/-- One send of the first exchange lends the rows sent and pays the partner's receive cell. -/
theorem send1_step (c : Dev nD) (d : Fin 32) (l : List (Fin 32)) (h : Tail (d :: l)) :
    iprop((records m K ∗ owesX c (owL (tOne c) (O₂ c) (d :: l)))
        ∗ rowsP c d (yOf m c) ∗ (∃ f : Vec F S32x8x512 .f32, slotP (peer c d) d f) ∗ dutyTok ER (dCell c 0 d) 0 0 ∗ dutyTok ER (dCell (peer c d) 1 d) 0 0)
      ⊢ Wp c (send1 yB aB cc0_scratch4 cc0_scratch5 c d)
          iprop((records m K ∗ owesX c (owL (tOne c) (O₂ c) l)) ∗ cred (tallyAt (dCell c 0 d) () N)) := by
  unfold send1 owesX
  iintro ⟨⟨#HR, ⟨%W, HO⟩⟩, Hy, ⟨%f, Hs⟩, Ht0, Ht1⟩
  iapply (send_rule m K c (peer c d) 0 1 d h.1 (rowsOf yB c d) (slotOf aB d) rfl (q := fullShare) (yOf m c) f (owL (tOne c) (O₂ c) l) W
    (BI.Entails.refl _) (Entails.of_eq (pointsTo_congr (land1 m c d f))) _)
  unfold rowsP slotP
  isplitr; · iexact HR
  isplitl [Hy]; · iexact Hy
  isplitl [Hs]; · iexact Hs
  isplitl [HO]; · iexact HO
  isplitl [Ht0]; · iexact Ht0
  isplitl [Ht1]; · iexact Ht1
  iintro ⟨Hc, HO⟩
  isplitl [HO]
  · isplitr; · iexact HR
    iexists W; iexact HO
  · iexact Hc

/-- One send of the second exchange lends a share of the own rows and pays the partner's receive cell. -/
theorem send2_step (c : Dev nD) (d : Fin 32) (l : List (Fin 32)) (h : Tail (d :: l)) :
    iprop((records m K ∗ owesX c (owL (tTwo c) 0 (d :: l)) ∗ outP (rt (31 - (d :: l).length)) c c (finOf m))
        ∗ (∃ f : Vec F S256x512 .f32, outP fullShare (peer c d) c f) ∗ dutyTok ER (dCell c 2 d) 0 0 ∗ dutyTok ER (dCell (peer c d) 3 d) 0 0)
      ⊢ Wp c (send2 oB cc0_scratch6 cc0_scratch7 c d)
          iprop((records m K ∗ owesX c (owL (tTwo c) 0 l) ∗ outP (rt (31 - l.length)) c c (finOf m)) ∗ cred (tallyAt (dCell c 2 d) () N)) := by
  unfold send2 owesX
  have e1 : 31 - (d :: l).length = d.val - 1 := by have := h.2.1; rw [List.length_cons]; omega
  have e2 : 31 - l.length = (d.val - 1) + 1 := by
    have := h.2.1; have h0 : d.val ≠ 0 := fun e => h.1 (Fin.ext e); omega
  rw [e1, e2]
  iintro ⟨⟨#HR, ⟨%W, HO⟩, Hq⟩, ⟨%f, Hs⟩, Ht0, Ht1⟩
  unfold outP
  ihave ⟨Hl, Hq⟩ := (pointsTo_share (PosShare.mem_left_op_right (rt (d.val - 1)))).1 $$ Hq
  iapply (send_rule m K c (peer c d) 2 3 d h.1 (outOf oB c) (outOf oB c) rfl (q := (rt (d.val - 1)).left) (finOf m) f (owL (tTwo c) 0 l) W
    (BI.Entails.refl _)
    (by unfold dmaPay outP; dsimp only; rw [peer_peer]; exact Entails.of_eq (pointsTo_congr (land2 m c f))) _)
  isplitr; · iexact HR
  isplitl [Hl]; · iexact Hl
  isplitl [Hs]; · iexact Hs
  isplitl [HO]; · iexact HO
  isplitl [Ht0]; · iexact Ht0
  isplitl [Ht1]; · iexact Ht1
  iintro ⟨Hc, HO⟩
  isplitl [HO Hq]
  · isplitr; · iexact HR
    isplitl [HO]; · iexists W; iexact HO
    rw [show rt (d.val - 1 + 1) = (rt (d.val - 1)).right from rfl]; iexact Hq
  · iexact Hc

end Cert.KernelIdeal.Mesh

end
-- ==== Proof.Ideal.Compute.lean ====
module

public import proofs.«01_k».proof.Proof.Ideal.Steps

@[expose] public section

set_option synthInstance.maxSize 4096

/-! The steps of the body that compute: the loads and stores of one device. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A whole buffer of device `c`. -/
abbrev bufP (c : Dev nD) (b : Ref sig .tc) (f : b.ty.Contents (Elt F)) : sProp 𝕄 :=
  ((c : Thread nD τ).loc b : Loc nD τ sig) ↦{fullShare} (f : Buf (Elt F) ((c : Thread nD τ).loc b))

/-- The offset written as two zeros is zero on every axis. -/
theorem hz2 : (![0, 0] : Fin 2 → Nat) = fun _ => 0 := funext fun a => by fin_cases a <;> rfl
/-- The offset written as three zeros is zero on every axis. -/
theorem hz3 : (![0, 0, 0] : Fin 3 → Nat) = fun _ => 0 := funext fun a => by fin_cases a <;> rfl

/-- A load of a whole buffer reads it, and a store over it leaves what is stored. -/
theorem read_x (f : Vec F S2x128x512 .bf16) :
    xB.view.readAt (Elt F) (Rect.unit (s := S2x128x512) ![0, 0, 0] S2x128x512.size inb_S2x128x512_S2x128x512_0_0_0).toLoadRect f = f :=
  Memref.readAt_unit_zero (Elt F) cc0_stg0_0 hz3 _ f
/-- A load of all the query weights reads them. -/
theorem read_wq (f : Vec F S512x256 .bf16) :
    wqB.view.readAt (Elt F) (Rect.unit (s := S512x256) ![0, 0] S512x256.size inb_S512x256_S512x256_0_0).toLoadRect f = f :=
  Memref.readAt_unit_zero (Elt F) cc0_stg1_0 hz2 _ f
/-- A load of the whole context reads it. -/
theorem read_c (f : Vec F S256x256 .bf16) :
    cB.view.readAt (Elt F) (Rect.unit (s := S256x256) ![0, 0] S256x256.size inb_S256x256_S256x256_0_0).toLoadRect f = f :=
  Memref.readAt_unit_zero (Elt F) cc0_scratch1 hz2 _ f
/-- A load of all the output weights reads them. -/
theorem read_wo (f : Vec F S256x512 .bf16) :
    woB.view.readAt (Elt F) (Rect.unit (s := S256x512) ![0, 0] S256x512.size inb_S256x512_S256x512_0_0).toLoadRect f = f :=
  Memref.readAt_unit_zero (Elt F) cc0_stg4_0 hz2 _ f
/-- A load of the whole gathering buffer reads it. -/
theorem read_a (f : Vec F S32x8x512 .f32) :
    aB.view.readAt (Elt F) (Rect.unit (s := S32x8x512) ![0, 0, 0] S32x8x512.size inb_S32x8x512_S32x8x512_0_0_0).toLoadRect f = f :=
  Memref.readAt_unit_zero (Elt F) cc0_scratch3 hz3 _ f
/-- A store over the whole query buffer leaves what is stored. -/
theorem write_q (f w : Vec F S256x256 .bf16) :
    (qB.access (Rect.unit (s := S256x256) ![0, 0] S256x256.size inb_S256x256_S256x256_0_0)).write (Elt F) f w Finset.univ = w :=
  Memref.write_access_unit_zero_univ (Elt F) cc0_scratch0 hz2 _ f w
/-- A store over the whole partial product leaves what is stored. -/
theorem write_y (f w : Vec F S256x512 .f32) :
    (yB.access (Rect.unit (s := S256x512) ![0, 0] S256x512.size inb_S256x512_S256x512_0_0)).write (Elt F) f w Finset.univ = w :=
  Memref.write_access_unit_zero_univ (Elt F) cc0_scratch2 hz2 _ f w

variable (m : (ℓ : Loc nD τ sig) → Buf (Elt F) ℓ)

/-- The projection fills the query buffer with the device's queries. -/
theorem proj_step (c : Dev nD) :
    iprop(bufP c cc0_stg0_0 (xOf m c) ∗ bufP c cc0_stg1_0 (wqOf m c) ∗ (∃ f, bufP (F := F) c cc0_scratch0 f))
      ⊢ Wp c (projStep xB wqB qB (Memref.isWhole_whole _)) iprop(bufP c cc0_stg0_0 (xOf m c) ∗ bufP c cc0_stg1_0 (wqOf m c) ∗ bufP c cc0_scratch0 (qOf m c)) := by
  unfold Wp projStep
  simp only [Prog.lift, Prog.bind_op, Prog.bind_ret]
  iintro ⟨Hx, Hw, ⟨%f, Hq⟩⟩
  iapply (wp_load 𝒱₀ (c : Thread nD τ) none Set.univ (m := xB) (Finset.subset_univ _)) $$ Hx; iintro Hx
  rw [read_x]
  iapply (wp_load 𝒱₀ (c : Thread nD τ) none Set.univ (m := wqB) (Finset.subset_univ _)) $$ Hw; iintro Hw
  rw [read_wq]
  iapply (wp_load 𝒱₀ (c : Thread nD τ) none Set.univ (m := qB) (Finset.subset_univ _)) $$ Hq; iintro Hq
  iapply (wp_store 𝒱₀ (c : Thread nD τ) none Set.univ (m := qB) (r := Rect.unit (s := S256x256) ![0, 0] S256x256.size inb_S256x256_S256x256_0_0) (Mk := Finset.univ) (Finset.subset_univ _)) $$ Hq; iintro Hq
  rw [write_q, wp_ret]; imodintro
  isplitl [Hx]; · iexact Hx
  isplitl [Hw]; · iexact Hw
  iexact Hq

/-- One pair's attention fills its part of the context and leaves the parts done before. -/
theorem head_step (c : Dev nD) (p : Fin 2 × Fin 4) (l : List (Fin 2 × Fin 4)) :
    iprop((bufP c cc0_stg2_0 (kOf m c) ∗ bufP c cc0_stg3_0 (vOf m c) ∗ bufP c cc0_scratch0 (qOf m c)
        ∗ ∃ f : Vec F S256x256 .bf16, ⌜∀ p', p' ∉ p :: l → ∀ x, f ((hdRect p').emb x) = hdOf m c p' x⌝ ∗ bufP c cc0_scratch1 f) ∗ emp)
      ⊢ Wp c (headStep kB vB qB cB (Memref.isWhole_whole _) p)
        iprop((bufP c cc0_stg2_0 (kOf m c) ∗ bufP c cc0_stg3_0 (vOf m c) ∗ bufP c cc0_scratch0 (qOf m c)
        ∗ ∃ f : Vec F S256x256 .bf16, ⌜∀ p', p' ∉ l → ∀ x, f ((hdRect p').emb x) = hdOf m c p' x⌝ ∗ bufP c cc0_scratch1 f) ∗ emp) := by
  unfold Wp headStep
  simp only [Prog.lift, Prog.bind_op, Prog.bind_ret]
  iintro ⟨⟨Hk, Hv, Hq, ⟨%f, %hf, Hc⟩⟩, -⟩
  iapply (wp_load 𝒱₀ (c : Thread nD τ) none Set.univ (m := qB) (Finset.subset_univ _)) $$ Hq; iintro Hq
  iapply (wp_load 𝒱₀ (c : Thread nD τ) none Set.univ (m := kB) (Finset.subset_univ _)) $$ Hk; iintro Hk
  iapply (wp_load 𝒱₀ (c : Thread nD τ) none Set.univ (m := vB) (Finset.subset_univ _)) $$ Hv; iintro Hv
  iapply (wp_load 𝒱₀ (c : Thread nD τ) none Set.univ (m := cB) (Finset.subset_univ _)) $$ Hc; iintro Hc
  iapply (wp_store 𝒱₀ (c : Thread nD τ) none Set.univ (m := cB) (r := hdRect p) (Mk := Finset.univ) (Finset.subset_univ _)) $$ Hc; iintro Hc
  rw [wp_ret]; imodintro
  isplitl [Hk Hv Hq Hc]
  · isplitl [Hk]; · iexact Hk
    isplitl [Hv]; · iexact Hv
    isplitl [Hq]; · iexact Hq
    iexists ((cB.access (hdRect p)).write (Elt F) f (hdOf m c p) Finset.univ)
    isplitr
    · ipureintro
      intro p' hp'
      refine hd_store m c p f (fun p' => p' ∉ p :: l) hf p' ?_
      by_cases e : p' = p
      · exact Or.inl e
      · exact Or.inr fun hm => (List.mem_cons.mp hm).elim e hp'
    · iexact Hc
  · iempintro

/-- Every pair is on the list. -/
theorem pairs_all : ∀ p : Fin 2 × Fin 4, p ∈ pairs := by decide

/-- After all the pairs the context buffer holds the device's context. -/
theorem heads_step (c : Dev nD) :
    iprop(bufP c cc0_stg2_0 (kOf m c) ∗ bufP c cc0_stg3_0 (vOf m c) ∗ bufP c cc0_scratch0 (qOf m c) ∗ (∃ f, bufP (F := F) c cc0_scratch1 f))
      ⊢ Wp c (each (headStep kB vB qB cB (Memref.isWhole_whole _)) pairs)
        iprop(bufP c cc0_stg2_0 (kOf m c) ∗ bufP c cc0_stg3_0 (vOf m c) ∗ bufP c cc0_scratch0 (qOf m c) ∗ bufP c cc0_scratch1 (ctxOf m c)) := by
  have hs : ∀ l : List (Fin 2 × Fin 4), (iprop(emp) : sProp 𝕄) ⊢ sepL (fun _ => iprop(emp)) l := fun l => by
    induction l with
    | nil => exact .rfl
    | cons d l ih => unfold sepL; iintro -; isplitr; · iempintro
                     iapply ih; iempintro
  have h := wp_each c (headStep kB vB qB cB (Memref.isWhole_whole _)) (fun l => iprop(bufP c cc0_stg2_0 (kOf m c) ∗ bufP c cc0_stg3_0 (vOf m c) ∗ bufP c cc0_scratch0 (qOf m c)
        ∗ ∃ f : Vec F S256x256 .bf16, ⌜∀ p', p' ∉ l → ∀ x, f ((hdRect p').emb x) = hdOf m c p' x⌝ ∗ bufP c cc0_scratch1 f)) (fun _ => iprop(emp)) (fun _ => iprop(emp)) (fun _ => True) (fun _ _ _ => trivial)
    (fun p l _ => head_step m c p l) pairs trivial
  iintro ⟨Hk, Hv, Hq, ⟨%f, Hc⟩⟩
  ihave Hw := h $$ [Hk Hv Hq Hc]
  · isplitl
    · isplitl [Hk]; · iexact Hk
      isplitl [Hv]; · iexact Hv
      isplitl [Hq]; · iexact Hq
      iexists f
      isplitr
      · ipureintro; exact fun p' hp' => absurd (pairs_all p') hp'
      · iexact Hc
    · iapply (hs pairs); iempintro
  unfold Wp
  iapply (wp_wand_r frame (wpE (defs₀ (F := F)) 𝒱₀ (c : Thread nD τ) none) Set.univ)
  isplitl [Hw]; · iexact Hw
  iintro %u ⟨⟨Hk, Hv, Hq, ⟨%g, %hg, Hc⟩⟩, -⟩
  have e : g = ctxOf m c := ctx_eq m c g fun p x => hg p (List.not_mem_nil) x
  subst e
  isplitl [Hk]; · iexact Hk
  isplitl [Hv]; · iexact Hv
  isplitl [Hq] <;> iassumption

/-- The product fills its buffer with the device's partial product. -/
theorem prod_step (c : Dev nD) :
    iprop(bufP c cc0_scratch1 (ctxOf m c) ∗ bufP c cc0_stg4_0 (woOf m c) ∗ (∃ f, bufP (F := F) c cc0_scratch2 f))
      ⊢ Wp c (prodStep woB cB yB) iprop(bufP c cc0_scratch1 (ctxOf m c) ∗ bufP c cc0_stg4_0 (woOf m c) ∗ bufP c cc0_scratch2 (yOf m c)) := by
  unfold Wp prodStep
  simp only [Prog.lift, Prog.bind_op, Prog.bind_ret]
  iintro ⟨Hx, Hw, ⟨%f, Hq⟩⟩
  iapply (wp_load 𝒱₀ (c : Thread nD τ) none Set.univ (m := cB) (Finset.subset_univ _)) $$ Hx; iintro Hx
  rw [read_c]
  iapply (wp_load 𝒱₀ (c : Thread nD τ) none Set.univ (m := woB) (Finset.subset_univ _)) $$ Hw; iintro Hw
  rw [read_wo]
  iapply (wp_load 𝒱₀ (c : Thread nD τ) none Set.univ (m := yB) (Finset.subset_univ _)) $$ Hq; iintro Hq
  iapply (wp_store 𝒱₀ (c : Thread nD τ) none Set.univ (m := yB) (r := Rect.unit (s := S256x512) ![0, 0] S256x512.size inb_S256x512_S256x512_0_0) (Mk := Finset.univ) (Finset.subset_univ _)) $$ Hq; iintro Hq
  rw [write_y, wp_ret]; imodintro
  isplitl [Hx]; · iexact Hx
  isplitl [Hw]; · iexact Hw
  iexact Hq

/-- The device's own rows go into slot 0. -/
theorem own_step (c : Dev nD) :
    iprop(rowsP c 0 (yOf m c) ∗ (∃ f : Vec F S32x8x512 .f32, slotP c 0 f))
      ⊢ Wp c (ownStep yB aB c) iprop(rowsP c 0 (yOf m c) ∗ slotP c 0 (accOf m c)) := by
  unfold Wp ownStep rowsP slotP
  simp only [Prog.lift, Prog.bind_op, Prog.bind_ret]
  iintro ⟨Hy, ⟨%f, Ha⟩⟩
  iapply (wp_load_rect 𝒱₀ (c : Thread nD τ) none Set.univ (m := yB) (r := ownRect c) (le_of_eq (own_set_y c))) $$ Hy; iintro Hy
  iapply (wp_load_rect 𝒱₀ (c : Thread nD τ) none Set.univ (m := aB) (r := slot0Rect) (le_of_eq own_set_a)) $$ Ha; iintro Ha
  iapply (wp_store 𝒱₀ (c : Thread nD τ) none Set.univ (m := aB) (r := slot0Rect) (Mk := Finset.univ) (le_of_eq own_set_a)) $$ Ha; iintro Ha
  rw [wp_ret]; imodintro
  isplitl [Hy]; · iexact Hy
  iapply (Entails.of_eq (pointsTo_congr (land0 m c f))); iexact Ha

/-- The sum over the slots goes into the device's own rows of the result. -/
theorem sum_step (c : Dev nD) :
    iprop(bufP c cc0_scratch3 (accOf m c) ∗ (∃ f : Vec F S256x512 .f32, outP fullShare c c f))
      ⊢ Wp c (sumStep oB aB c) iprop(bufP c cc0_scratch3 (accOf m c) ∗ outP fullShare c c (finOf m)) := by
  unfold Wp sumStep outP
  simp only [Prog.lift, Prog.bind_op, Prog.bind_ret]
  iintro ⟨Ha, ⟨%f, Ho⟩⟩
  iapply (wp_load 𝒱₀ (c : Thread nD τ) none Set.univ (m := aB) (Finset.subset_univ _)) $$ Ha; iintro Ha
  rw [read_a]
  iapply (wp_load_rect 𝒱₀ (c : Thread nD τ) none Set.univ (m := oB) (r := ownRect c) (le_of_eq (own_set_o c))) $$ Ho; iintro Ho
  iapply (wp_store 𝒱₀ (c : Thread nD τ) none Set.univ (m := oB) (r := ownRect c) (Mk := Finset.univ) (le_of_eq (own_set_o c))) $$ Ho; iintro Ho
  rw [wp_ret]; imodintro
  isplitl [Ha]; · iexact Ha
  iapply (Entails.of_eq (pointsTo_congr (landSum m c f))); iexact Ho

end Cert.KernelIdeal.Mesh

end
-- ==== Proof.Ideal.Body.lean ====
module

public import proofs.«01_k».proof.Proof.Ideal.Compute

@[expose] public section

set_option synthInstance.maxSize 4096

/-! The whole body of one device under the protocol. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Whole buffers and their blocks -/

/-- A product of pairs along a list is the pair of the products. -/
theorem sepL_sep {M : Type} [URA M] {β : Type} (Φ Ψ : β → sProp M) : ∀ l : List β, sepL (fun d => iprop(Φ d ∗ Ψ d)) l ⊣⊢ iprop(sepL Φ l ∗ sepL Ψ l)
  | [] => ⟨by unfold sepL; iintro -; isplitr <;> iempintro, by unfold sepL; iintro -; iempintro⟩
  | d :: l => by
    have ih := sepL_sep Φ Ψ l
    unfold sepL
    constructor
    · iintro ⟨⟨H1, H2⟩, H⟩
      ihave ⟨H3, H4⟩ := ih.1 $$ H
      isplitl [H1 H3]
      · isplitl [H1] <;> iassumption
      · isplitl [H2] <;> iassumption
    · iintro ⟨⟨H1, H3⟩, H2, H4⟩
      isplitl [H1 H2]
      · isplitl [H1] <;> iassumption
      · iapply ih.2
        isplitl [H3] <;> iassumption

/-- A whole buffer is the product of its parts, when the parts are the classes of a function. -/
theorem split_by {ℓ : Loc nD τ sig} {T : Type} [Fintype T] [DecidableEq T] (cls : Idx ℓ → T) (S : T → Finset (Idx ℓ)) (h : ∀ t i, i ∈ S t ↔ cls i = t)
    (q : PosShare TreeShare) (f : Buf (Elt F) ℓ) : (ℓ ↦{q} f : sProp 𝕄) = bigSep Finset.univ fun t => ℓ ↦[S t]{q} f := by
  rw [← pointsTo_biUnion Finset.univ S fun t _ t' _ hne => Finset.disjoint_left.mpr fun i hi hi' => hne (((h t i).mp hi).symm.trans ((h t' i).mp hi'))]
  congr 1
  exact (Finset.eq_univ_iff_forall.mpr fun i => Finset.mem_biUnion.mpr ⟨cls i, Finset.mem_univ _, (h _ i).mpr rfl⟩).symm

/-- The gathering buffer is its slot 0 and its slots at the shifts. -/
theorem slots_eq (c : Dev nD) (f : Vec F S32x8x512 .f32) : (bufP c cc0_scratch3 f : sProp 𝕄) = iprop(slotP c 0 f ∗ sepL (fun d => slotP c d f) shifts) := by
  rw [← bigSep_shifts (fun d => slotP c d f)]
  exact split_by (ℓ := (c : Thread nD τ).loc cc0_scratch3) (fun i : S32x8x512.Idx => (i 0 : Fin 32)) (fun d => (slotOf aB d).view.set) (fun d i => mem_slot d i) fullShare f

/-- The device whose rows an element of the result belongs to. -/
def ownerOf (i : S256x512.Idx) : Dev nD := (⟨(i 0).val / 8, by have h : (i 0).val < 256 := (i 0).isLt; show _ < 32; omega⟩ : Fin 32)
/-- An element is a partner's exactly when the shift to its owner is that partner's. -/
theorem owner_iff (c : Dev nD) (d : Fin 32) (i : S256x512.Idx) : (i 0).val / 8 = (peer c d).val ↔ shiftOf c (ownerOf i) = d :=
  ⟨fun h => by rw [show ownerOf i = peer c d from Fin.ext h, shiftOf_peer], fun h => by
    have e := peer_shiftOf c (ownerOf i)
    rw [h] at e
    exact (congrArg Fin.val e).symm⟩

/-- The partial product is the device's own rows and its partners'. -/
theorem rows_eq (c : Dev nD) (f : Vec F S256x512 .f32) : (bufP c cc0_scratch2 f : sProp 𝕄) = iprop(rowsP c 0 f ∗ sepL (fun d => rowsP c d f) shifts) := by
  rw [← bigSep_shifts (fun d => rowsP c d f)]
  exact split_by (ℓ := (c : Thread nD τ).loc cc0_scratch2) (fun i : S256x512.Idx => shiftOf c (ownerOf i)) (fun d => (rowsOf yB c d).view.set)
    (fun d i => (mem_rows c d i).trans (owner_iff c d i)) fullShare f

/-- The result is the device's own rows and its partners'. -/
theorem outs_eq (c : Dev nD) (f : Vec F S256x512 .f32) :
    (bufP c cc0_stg5_0 f : sProp 𝕄) = iprop(outP fullShare c c f ∗ sepL (fun d => outP fullShare c (peer c d) f) shifts) := by
  have e : (outP fullShare c c f : sProp 𝕄) = outP fullShare c (peer c 0) f := by rw [peer_zero]
  rw [e, ← bigSep_shifts (fun d => outP fullShare c (peer c d) f)]
  exact split_by (ℓ := (c : Thread nD τ).loc cc0_stg5_0) (fun i : S256x512.Idx => shiftOf c (ownerOf i)) (fun d => (outOf oB (peer c d)).view.set)
    (fun d i => (mem_out (peer c d) i).trans (owner_iff c d i)) fullShare f

/-- The pieces of its own rows that a device gave to its sends make the rows again. -/
theorem pieces_join (c : Dev nD) (f : Vec F S256x512 .f32) : ∀ l : List (Fin 32), Tail l →
    (iprop(sepL (fun d => outP (piece d) c c f) l ∗ outP (rt 31) c c f) ⊢ (outP (rt (31 - l.length)) c c f : sProp 𝕄))
  | [], _ => by unfold sepL; iintro ⟨-, H⟩; iexact H
  | d :: l, h => by
    have ih := pieces_join c f l h.2.2
    have e1 : 31 - (d :: l).length = d.val - 1 := by have := h.2.1; rw [List.length_cons]; omega
    have e2 : 31 - l.length = (d.val - 1) + 1 := by
      have := h.2.1; have h0 : d.val ≠ 0 := fun e => h.1 (Fin.ext e); omega
    rw [e2] at ih
    rw [e1]
    unfold sepL
    iintro ⟨⟨H1, Hs⟩, H⟩
    ihave H2 := ih $$ [Hs H]
    · isplitl [Hs] <;> iassumption
    unfold outP piece
    iapply (pointsTo_share (PosShare.mem_left_op_right (rt (d.val - 1)))).2
    isplitl [H1]; · iexact H1
    rw [show rt (d.val - 1 + 1) = (rt (d.val - 1)).right from rfl]; iexact H2

/-! ## What the body starts from and ends with -/

variable (m : (ℓ : Loc nD τ sig) → Buf (Elt F) ℓ) (K : Dev nD × Cell → ℕ)

/-- The right to pay the partner at shift `d` on its barrier and its two receive semaphores, and oneself on the two send semaphores. -/
def toksAt (c : Dev nD) (d : Fin 32) : sProp 𝕄 :=
  iprop(dutyTok ER (barCell (peer c d)) 0 d ∗ dutyTok ER (dCell (peer c d) 1 d) 0 0 ∗ dutyTok ER (dCell (peer c d) 3 d) 0 0
    ∗ dutyTok ER (dCell c 0 d) 0 0 ∗ dutyTok ER (dCell c 2 d) 0 0)

/-- What device `c` has of the protocol at the start. -/
def ghost (c : Dev nD) : sProp 𝕄 :=
  iprop(records m K ∗ atPos ER (barCell c) 0 ∅ 0 ∗ (bigSep Finset.univ fun kd : Fin 4 × Fin 32 => atPos ER (dCell c kd.1 kd.2) 0 ∅ 0)
    ∗ bigSep Finset.univ fun d => toksAt c d)

/-- What device `c` is promised: 31 barrier units, and a block on each receive semaphore. -/
def creds (c : Dev nD) : sProp 𝕄 :=
  iprop(cred (tallyAt (barCell c) () 31) ∗ sepL (fun d => cred (tallyAt (dCell c 1 d) () N)) shifts ∗ sepL (fun d => cred (tallyAt (dCell c 3 d) () N)) shifts)

/-- The kernel's own buffers at some contents. -/
def scratch (c : Dev nD) : sProp 𝕄 :=
  iprop((∃ f, bufP (F := F) c cc0_scratch0 f) ∗ (∃ f, bufP (F := F) c cc0_scratch1 f) ∗ (∃ f, bufP (F := F) c cc0_scratch2 f) ∗ (∃ f, bufP (F := F) c cc0_scratch3 f))

/-- The staged inputs. -/
def inputs (c : Dev nD) : sProp 𝕄 :=
  iprop(bufP c cc0_stg0_0 (xOf m c) ∗ bufP c cc0_stg1_0 (wqOf m c) ∗ bufP c cc0_stg2_0 (kOf m c) ∗ bufP c cc0_stg3_0 (vOf m c) ∗ bufP c cc0_stg4_0 (woOf m c))

/-- All the protocol's semaphores of device `c` at zero. -/
def zeros (c : Dev nD) : sProp 𝕄 :=
  iprop(semVal (barCell c) 0 ∗ bigSep Finset.univ fun kd : Fin 4 × Fin 32 => semVal (dCell c kd.1 kd.2) 0)

/-- A product over the four semaphore arrays, written out: the unused cell 0 of each and its cells at the shifts. -/
theorem bigSep_arrays {M : Type} [URA M] (Φ : Fin 4 × Fin 32 → sProp M) :
    bigSep Finset.univ Φ = iprop((Φ (0, 0) ∗ sepL (fun d => Φ (0, d)) shifts) ∗ (Φ (1, 0) ∗ sepL (fun d => Φ (1, d)) shifts)
      ∗ (Φ (2, 0) ∗ sepL (fun d => Φ (2, d)) shifts) ∗ (Φ (3, 0) ∗ sepL (fun d => Φ (3, d)) shifts)) := by
  rw [bigSep_univ_prod, bigSep_univ_eq_bigSepL [(0 : Fin 4), 1, 2, 3] (by decide) (by decide)]
  simp only [bigSepL_cons_cons, bigSepL_singleton, bigSep_shifts]
  rfl

/-- A cell without a payer closes at once. -/
theorem close_zero (c : Dev nD) (k : Fin 4) : iprop(records m K ∗ atPos ER (dCell c k 0) 0 ∅ 0) ⊢ |={Set.univ}=> (semVal (dCell c k 0) 0 : sProp 𝕄) := by
  iintro ⟨#HR, Hat⟩
  ihave ⟨#HI, #Hr⟩ := records_dma m K c k 0 $$ HR
  iapply (Rounds.cell_close ER (sched m) (Set.mem_univ (K (c, some (k, 0)))) (fun h => h) (R := 0) (duties_none m c k))
  isplitr; · iexact HI
  iexact Hat

/-- The rest of a list of distinct shifts is one. -/
theorem tail_of (d : Fin 32) (l : List (Fin 32)) (h : Tail (d :: l)) : Tail l := h.2.2

/-! ## The loops -/

/-- The signals of the entry barrier pay what the device owes its partners' barriers. -/
theorem sigs (c : Dev nD) :
    iprop((records m K ∗ owesX c (O₀ c))
        ∗ sepL (fun d => iprop(dutyTok ER (barCell (peer c d)) 0 d ∗ (∃ f : Vec F S32x8x512 .f32, slotP c d f) ∗ (∃ f : Vec F S256x512 .f32, outP fullShare c (peer c d) f))) shifts)
      ⊢ Wp c (each (sigStep c) shifts) iprop((records m K ∗ owesX c (O₁ c)) ∗ sepL (fun _ => iprop(emp)) shifts) :=
  wp_each c (sigStep c) (fun l => iprop(records m K ∗ owesX c (owL (tBar c) (O₁ c) l))) _ _ Tail tail_of (fun d l h => sig_step m K c d l h) shifts tail_shifts

/-- The first exchange's sends leave the credit of the send cells. -/
theorem sends1 (c : Dev nD) :
    iprop((records m K ∗ owesX c (O₁ c))
        ∗ sepL (fun d => iprop(rowsP c d (yOf m c) ∗ (∃ f : Vec F S32x8x512 .f32, slotP (peer c d) d f) ∗ dutyTok ER (dCell c 0 d) 0 0 ∗ dutyTok ER (dCell (peer c d) 1 d) 0 0)) shifts)
      ⊢ Wp c (each (send1 yB aB cc0_scratch4 cc0_scratch5 c) shifts)
        iprop((records m K ∗ owesX c (O₂ c)) ∗ sepL (fun d => cred (tallyAt (dCell c 0 d) () N)) shifts) :=
  wp_each c _ (fun l => iprop(records m K ∗ owesX c (owL (tOne c) (O₂ c) l))) _ _ Tail tail_of (fun d l h => send1_step m K c d l h) shifts tail_shifts

/-- The second exchange's sends lend shares of the summed rows and leave the credit of the send cells. -/
theorem sends2 (c : Dev nD) :
    iprop((records m K ∗ owesX c (O₂ c) ∗ outP fullShare c c (finOf m))
        ∗ sepL (fun d => iprop((∃ f : Vec F S256x512 .f32, outP fullShare (peer c d) c f) ∗ dutyTok ER (dCell c 2 d) 0 0 ∗ dutyTok ER (dCell (peer c d) 3 d) 0 0)) shifts)
      ⊢ Wp c (each (send2 oB cc0_scratch6 cc0_scratch7 c) shifts)
        iprop((records m K ∗ owesX c 0 ∗ outP (rt 31) c c (finOf m)) ∗ sepL (fun d => cred (tallyAt (dCell c 2 d) () N)) shifts) :=
  wp_each c _ (fun l => iprop(records m K ∗ owesX c (owL (tTwo c) 0 l) ∗ outP (rt (31 - l.length)) c c (finOf m))) _ _ Tail tail_of
    (fun d l h => send2_step m K c d l h) shifts tail_shifts

/-- A loop of waits on array `k`. -/
theorem waits (c : Dev nD) (k : Fin 4) (O : CellTallies nD τ sig Unit) (hO : Above (lvOf (some (some (k, 0)))) O)
    (w : Fin 32 → TpuEff nD τ sig (Elt F) Λ₀ .tc PUnit)
    (hw : ∀ d (R : PUnit → sProp 𝕄), wpE (defs₀ (F := F)) 𝒱₀ (c : Thread nD τ) none Set.univ (w d) R = waitSpec (c : Thread nD τ) Set.univ (.dma (dsem k d)) N R) :
    iprop(((records m K ∗ levAts L lv) ∗ owesX c O) ∗ sepL (fun d => iprop(cred (tallyAt (dCell c k d) () N) ∗ atPos ER (dCell c k d) 0 ∅ 0)) shifts)
      ⊢ Wp c (each (fun d => Prog.lift (w d)) shifts)
        iprop(((records m K ∗ levAts L lv) ∗ owesX c O) ∗ sepL (fun d => iprop(semVal (dCell c k d) 0 ∗ dmaPay m c k d)) shifts) :=
  wp_each c _ (fun _ => iprop((records m K ∗ levAts L lv) ∗ owesX c O)) _ _ Tail tail_of (fun d l h => wait_step m K c k O hO w hw d l h) shifts tail_shifts

/-- The first exchange's receives bring every slot, filled. -/
theorem recvs1 (c : Dev nD) :
    iprop(((records m K ∗ levAts L lv) ∗ owesX c (O₂ c)) ∗ sepL (fun d => iprop(cred (tallyAt (dCell c 1 d) () N) ∗ atPos ER (dCell c 1 d) 0 ∅ 0)) shifts)
      ⊢ Wp c (each (recv1 yB aB cc0_scratch5 c) shifts)
        iprop(((records m K ∗ levAts L lv) ∗ owesX c (O₂ c)) ∗ sepL (fun d => iprop(semVal (dCell c 1 d) 0 ∗ dmaPay m c 1 d)) shifts) :=
  waits m K c 1 (O₂ c) (above_O₂ c shifts) _ (fun d R => wpE_waitDma2_eq 𝒱₀ (c : Thread nD τ) none Set.univ R)
/-- The second exchange's receives bring every partner's rows of the result. -/
theorem recvs2 (c : Dev nD) :
    iprop(((records m K ∗ levAts L lv) ∗ owesX c 0) ∗ sepL (fun d => iprop(cred (tallyAt (dCell c 3 d) () N) ∗ atPos ER (dCell c 3 d) 0 ∅ 0)) shifts)
      ⊢ Wp c (each (recv2 oB cc0_scratch7 c) shifts)
        iprop(((records m K ∗ levAts L lv) ∗ owesX c 0) ∗ sepL (fun d => iprop(semVal (dCell c 3 d) 0 ∗ dmaPay m c 3 d)) shifts) :=
  waits m K c 3 0 (above_zero _) _ (fun d R => wpE_waitDma2_eq 𝒱₀ (c : Thread nD τ) none Set.univ R)
/-- The waits on the first exchange's sends bring the source rows back. -/
theorem sents1 (c : Dev nD) :
    iprop(((records m K ∗ levAts L lv) ∗ owesX c 0) ∗ sepL (fun d => iprop(cred (tallyAt (dCell c 0 d) () N) ∗ atPos ER (dCell c 0 d) 0 ∅ 0)) shifts)
      ⊢ Wp c (each (sent1 yB aB cc0_scratch4 c) shifts)
        iprop(((records m K ∗ levAts L lv) ∗ owesX c 0) ∗ sepL (fun d => iprop(semVal (dCell c 0 d) 0 ∗ dmaPay m c 0 d)) shifts) :=
  waits m K c 0 0 (above_zero _) _ (fun d R => wpE_waitDma2_eq 𝒱₀ (c : Thread nD τ) none Set.univ R)
/-- The waits on the second exchange's sends bring the lent shares back. -/
theorem sents2 (c : Dev nD) :
    iprop(((records m K ∗ levAts L lv) ∗ owesX c 0) ∗ sepL (fun d => iprop(cred (tallyAt (dCell c 2 d) () N) ∗ atPos ER (dCell c 2 d) 0 ∅ 0)) shifts)
      ⊢ Wp c (each (sent2 oB cc0_scratch6 c) shifts)
        iprop(((records m K ∗ levAts L lv) ∗ owesX c 0) ∗ sepL (fun d => iprop(semVal (dCell c 2 d) 0 ∗ dmaPay m c 2 d)) shifts) :=
  waits m K c 2 0 (above_zero _) _ (fun d R => wpE_waitDma2_eq 𝒱₀ (c : Thread nD τ) none Set.univ R)

/-! ## The body -/

/-- From some contents of a whole buffer to some contents of each block. -/
theorem slots_open (c : Dev nD) : (iprop(∃ f, bufP (F := F) c cc0_scratch3 f) : sProp 𝕄)
    ⊢ iprop((∃ f : Vec F S32x8x512 .f32, slotP c 0 f) ∗ sepL (fun d => iprop(∃ f : Vec F S32x8x512 .f32, slotP c d f)) shifts) := by
  iintro ⟨%f, H⟩
  ihave ⟨H0, Hs⟩ := (Entails.of_eq (slots_eq c f)) $$ H
  isplitl [H0]; · iexists f; iexact H0
  iapply (sepL_mono (l := shifts) (Φ := fun d => slotP c d f) (fun d _ => by iintro H; iexists f; iexact H)); iexact Hs
/-- The result buffer at some contents, cut by owner. -/
theorem outs_open (c : Dev nD) : (iprop(∃ f, bufP (F := F) c cc0_stg5_0 f) : sProp 𝕄)
    ⊢ iprop((∃ f : Vec F S256x512 .f32, outP fullShare c c f) ∗ sepL (fun d => iprop(∃ f : Vec F S256x512 .f32, outP fullShare c (peer c d) f)) shifts) := by
  iintro ⟨%f, H⟩
  ihave ⟨H0, Hs⟩ := (Entails.of_eq (outs_eq c f)) $$ H
  isplitl [H0]; · iexists f; iexact H0
  iapply (sepL_mono (l := shifts) (Φ := fun d => outP fullShare c (peer c d) f) (fun d _ => by iintro H; iexists f; iexact H)); iexact Hs

/-- The tokens of a device, sorted by kind. -/
theorem toks_open (c : Dev nD) : (bigSep Finset.univ fun d => toksAt (F := F) c d)
    ⊢ iprop(sepL (fun d => dutyTok ER (barCell (peer c d)) 0 d) shifts ∗ sepL (fun d => dutyTok ER (dCell (peer c d) 1 d) 0 0) shifts
      ∗ sepL (fun d => dutyTok ER (dCell (peer c d) 3 d) 0 0) shifts ∗ sepL (fun d => dutyTok ER (dCell c 0 d) 0 0) shifts
      ∗ (sepL (fun d => dutyTok ER (dCell c 2 d) 0 0) shifts : sProp 𝕄)) := by
  rw [bigSep_shifts]
  unfold toksAt
  iintro ⟨-, H⟩
  ihave ⟨H1, H⟩ := (sepL_sep _ _ shifts).1 $$ H
  isplitl [H1]; · iexact H1
  ihave ⟨H1, H⟩ := (sepL_sep _ _ shifts).1 $$ H
  isplitl [H1]; · iexact H1
  ihave ⟨H1, H⟩ := (sepL_sep _ _ shifts).1 $$ H
  isplitl [H1]; · iexact H1
  iapply (sepL_sep _ _ shifts).1; iexact H

end Cert.KernelIdeal.Mesh

end
-- ==== Proof.Ideal.Whole.lean ====
module

public import proofs.«01_k».proof.Proof.Ideal.Body

@[expose] public section

set_option synthInstance.maxSize 4096

/-! One device from its entry to its exit. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cell → ℕ)

/-- The kernel's program on its own buffers. -/
abbrev prog : Pr F :=
  program xB wqB kB vB woB oB qB (Memref.isWhole_whole _) cB (Memref.isWhole_whole _) yB aB cc0_scratch4 cc0_scratch5 cc0_scratch6 cc0_scratch7

/-- What device `c` starts from. -/
def bodyPre (c : Dev nD) : sProp 𝕄 :=
  iprop(ghost m K c ∗ creds c ∗ levAts L lv ∗ scratch c ∗ owesX c (O₀ c) ∗ inputs m c ∗ ∃ f, bufP (F := F) c cc0_stg5_0 f)
/-- What it ends with. -/
def bodyPost (c : Dev nD) : sProp 𝕄 :=
  iprop(scratch c ∗ zeros c ∗ owesX c 0 ∗ inputs m c ∗ bufP c cc0_stg5_0 (finOf m))

set_option maxHeartbeats 4000000 in
/-- The whole body on device `c`: from the arguments and some contents of every buffer to the result. -/
theorem sound_prog (c : Dev nD) : bodyPre m K c ⊢ Wp c prog (bodyPost m c) := by
  unfold prog program
  simp only [Prog.lift, Prog.bind_op, Prog.bind_ret]
  unfold Wp
  rw [wp_deviceId]
  unfold bodyPre ghost creds scratch inputs
  iintro ⟨⟨#HR, HatB, Hat, Htok⟩, ⟨HcB, Hc1, Hc3⟩, #Hlev, ⟨Hs0, Hs1, Hs2, Hs3⟩, HO, ⟨Hx, Hwq, Hkk, Hv, Hwo⟩, Ho⟩
  ihave ⟨Ht0, Ht1, Ht2, Ht3, Ht4⟩ := (toks_open c) $$ Htok
  ihave ⟨⟨HaZ0, Ha0⟩, ⟨HaZ1, Ha1⟩, ⟨HaZ2, Ha2⟩, ⟨HaZ3, Ha3⟩⟩ := (Entails.of_eq (bigSep_arrays (fun kd : Fin 4 × Fin 32 => atPos ER (dCell c kd.1 kd.2) 0 ∅ 0))) $$ Hat
  ihave ⟨Hsl0, Hsl⟩ := (slots_open c) $$ Hs3
  ihave ⟨Hou0, Hou⟩ := (outs_open c) $$ Ho
  -- the signals
  iapply (wp_then c (sigs m K c))
  isplitl [HO Ht0 Hsl Hou]
  · isplitl [HO]
    · isplitr; · iexact HR
      iexact HO
    iapply (sepL_sep _ _ shifts).2
    isplitl [Ht0]; · iexact Ht0
    iapply (sepL_sep _ _ shifts).2
    isplitl [Hsl]; · iexact Hsl
    iexact Hou
  iintro ⟨⟨-, HO⟩, -⟩
  -- the wait for the partners
  iapply (wp_then c (bar_wait m K c))
  isplitl [HO HcB HatB]
  · isplitr
    · isplitr; · iexact HR
      iexact Hlev
    isplitl [HO]; · iexact HO
    isplitl [HcB]; · iexact HcB
    iexact HatB
  iintro ⟨HO, HzB, Hpay⟩
  unfold barPay
  ihave ⟨Hsl, Hou⟩ := (sepL_sep _ _ shifts).1 $$ Hpay
  -- the attention
  iapply (wp_then c (proj_step m c))
  isplitl [Hx Hwq Hs0]
  · isplitl [Hx]; · iexact Hx
    isplitl [Hwq]; · iexact Hwq
    iexact Hs0
  iintro ⟨Hx, Hwq, Hs0⟩
  iapply (wp_then c (heads_step m c))
  isplitl [Hkk Hv Hs0 Hs1]
  · isplitl [Hkk]; · iexact Hkk
    isplitl [Hv]; · iexact Hv
    isplitl [Hs0]; · iexact Hs0
    iexact Hs1
  iintro ⟨Hkk, Hv, Hs0, Hs1⟩
  iapply (wp_then c (prod_step m c))
  isplitl [Hs1 Hwo Hs2]
  · isplitl [Hs1]; · iexact Hs1
    isplitl [Hwo]; · iexact Hwo
    iexact Hs2
  iintro ⟨Hs1, Hwo, Hs2⟩
  -- the first exchange
  ihave ⟨Hy0, Hy⟩ := (Entails.of_eq (rows_eq c (yOf m c))) $$ Hs2
  iapply (wp_then c (sends1 m K c))
  isplitl [HO Hy Hsl Ht3 Ht1]
  · isplitl [HO]
    · isplitr; · iexact HR
      iexact HO
    iapply (sepL_sep _ _ shifts).2
    isplitl [Hy]; · iexact Hy
    iapply (sepL_sep _ _ shifts).2
    isplitl [Hsl]; · iexact Hsl
    iapply (sepL_sep _ _ shifts).2
    isplitl [Ht3]; · iexact Ht3
    iexact Ht1
  iintro ⟨⟨-, HO⟩, Hc0⟩
  iapply (wp_then c (own_step m c))
  isplitl [Hy0 Hsl0]
  · isplitl [Hy0]; · iexact Hy0
    iexact Hsl0
  iintro ⟨Hy0, Hsl0⟩
  iapply (wp_then c (recvs1 m K c))
  isplitl [HO Hc1 Ha1]
  · isplitl [HO]
    · isplitr
      · isplitr; · iexact HR
        iexact Hlev
      iexact HO
    iapply (sepL_sep _ _ shifts).2
    isplitl [Hc1]; · iexact Hc1
    iexact Ha1
  iintro ⟨⟨-, HO⟩, H⟩
  ihave ⟨Hz1, Hsl⟩ := (sepL_sep _ _ shifts).1 $$ H
  ihave Hs3 := (Entails.of_eq (slots_eq c (accOf m c)).symm) $$ [Hsl0 Hsl]
  · isplitl [Hsl0]; · iexact Hsl0
    iexact Hsl
  -- the sum
  iapply (wp_then c (sum_step m c))
  isplitl [Hs3 Hou0]
  · isplitl [Hs3]; · iexact Hs3
    iexact Hou0
  iintro ⟨Hs3, Hou0⟩
  -- the second exchange
  iapply (wp_then c (sends2 m K c))
  isplitl [HO Hou0 Hou Ht4 Ht2]
  · isplitl [HO Hou0]
    · isplitr; · iexact HR
      isplitl [HO]; · iexact HO
      iexact Hou0
    iapply (sepL_sep _ _ shifts).2
    isplitl [Hou]; · iexact Hou
    iapply (sepL_sep _ _ shifts).2
    isplitl [Ht4]; · iexact Ht4
    iexact Ht2
  iintro ⟨⟨-, HO, HouR⟩, Hc2⟩
  iapply (wp_then c (recvs2 m K c))
  isplitl [HO Hc3 Ha3]
  · isplitl [HO]
    · isplitr
      · isplitr; · iexact HR
        iexact Hlev
      iexact HO
    iapply (sepL_sep _ _ shifts).2
    isplitl [Hc3]; · iexact Hc3
    iexact Ha3
  iintro ⟨⟨-, HO⟩, H⟩
  ihave ⟨Hz3, Hou⟩ := (sepL_sep _ _ shifts).1 $$ H
  iapply (wp_then c (sents1 m K c))
  isplitl [HO Hc0 Ha0]
  · isplitl [HO]
    · isplitr
      · isplitr; · iexact HR
        iexact Hlev
      iexact HO
    iapply (sepL_sep _ _ shifts).2
    isplitl [Hc0]; · iexact Hc0
    iexact Ha0
  iintro ⟨⟨-, HO⟩, H⟩
  ihave ⟨Hz0, Hy⟩ := (sepL_sep _ _ shifts).1 $$ H
  ihave Hw := (sents2 m K c) $$ [HO Hc2 Ha2]
  · isplitl [HO]
    · isplitr
      · isplitr; · iexact HR
        iexact Hlev
      iexact HO
    iapply (sepL_sep _ _ shifts).2
    isplitl [Hc2]; · iexact Hc2
    iexact Ha2
  -- the exit
  iapply (fupd_wp frame (wpE (defs₀ (F := F)) 𝒱₀ (c : Thread nD τ) none) Set.univ)
  imod (close_zero m K c 0) $$ [HaZ0] with HZ0
  · isplitr; · iexact HR
    iexact HaZ0
  imod (close_zero m K c 1) $$ [HaZ1] with HZ1
  · isplitr; · iexact HR
    iexact HaZ1
  imod (close_zero m K c 2) $$ [HaZ2] with HZ2
  · isplitr; · iexact HR
    iexact HaZ2
  imod (close_zero m K c 3) $$ [HaZ3] with HZ3
  · isplitr; · iexact HR
    iexact HaZ3
  imodintro
  iapply (wp_wand_r frame (wpE (defs₀ (F := F)) 𝒱₀ (c : Thread nD τ) none) Set.univ)
  isplitl [Hw]; · iexact Hw
  iintro %u ⟨⟨-, HO⟩, H⟩
  ihave ⟨Hz2, Hp⟩ := (sepL_sep _ _ shifts).1 $$ H
  ihave Hou0 := (pieces_join c (finOf m) shifts tail_shifts) $$ [Hp HouR]
  · isplitl [Hp]; · iexact Hp
    iexact HouR
  ihave Ho := (Entails.of_eq (outs_eq c (finOf m)).symm) $$ [Hou0 Hou]
  · isplitl [Hou0]; · iexact Hou0
    iexact Hou
  ihave Hs2 := (Entails.of_eq (rows_eq c (yOf m c)).symm) $$ [Hy0 Hy]
  · isplitl [Hy0]; · iexact Hy0
    iexact Hy
  unfold bodyPost zeros scratch inputs
  isplitl [Hs0 Hs1 Hs2 Hs3]
  · isplitl [Hs0]; · iexists _; iexact Hs0
    isplitl [Hs1]; · iexists _; iexact Hs1
    isplitl [Hs2]; · iexists _; iexact Hs2
    iexists _; iexact Hs3
  isplitl [HzB HZ0 Hz0 HZ1 Hz1 HZ2 Hz2 HZ3 Hz3]
  · isplitl [HzB]; · iexact HzB
    iapply (Entails.of_eq (bigSep_arrays (fun kd : Fin 4 × Fin 32 => semVal (dCell c kd.1 kd.2) 0)).symm)
    isplitl [HZ0 Hz0]
    · isplitl [HZ0]; · iexact HZ0
      iexact Hz0
    isplitl [HZ1 Hz1]
    · isplitl [HZ1]; · iexact HZ1
      iexact Hz1
    isplitl [HZ2 Hz2]
    · isplitl [HZ2]; · iexact HZ2
      iexact Hz2
    · isplitl [HZ3]; · iexact HZ3
      iexact Hz3
  isplitl [HO]; · iexact HO
  isplitl [Hx Hwq Hkk Hv Hwo]
  · isplitl [Hx]; · iexact Hx
    isplitl [Hwq]; · iexact Hwq
    isplitl [Hkk]; · iexact Hkk
    isplitl [Hv]; · iexact Hv
    iexact Hwo
  iexact Ho

end Cert.KernelIdeal.Mesh

end
-- ==== Proof.Ideal.Launch.lean ====
module

public import proofs.«01_k».proof.Proof.Ideal.Whole
public import proofs.«01_k».proof.Proof.Gen.KernelIdeal.Points
public import Idealize.ShloMosaic.Lib.Pipeline.ValueKit.Geometry

@[expose] public section

set_option synthInstance.maxSize 4096

/-! The call's data, and the ghost state the protocol starts from. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The state before the run. -/
def s₀ : MemSt nD τ sig (Elt F) := ⟨m, fun _ => 0, ρ⟩

/-- What a device brings to the call. -/
def start (c : Dev nD) : sProp 𝕄 := iprop((∃ K, ghost m K c) ∗ creds c ∗ levAts L lv)
/-- Before and after the call's one point. -/
def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => wqOf m c
    | ⟨2, _⟩ => kOf m c
    | ⟨3, _⟩ => vOf m c
    | ⟨4, _⟩ => woOf m c
    | ⟨5, _⟩ => finOf m
  Φ t := match t with
    | ⟨0, _⟩ => Φ₀ m c
    | ⟨_ + 1, _⟩ => Φ₁ c
  q _ := fullShare
  owed t := match t with
    | ⟨0, _⟩ => O₀ c
    | ⟨_ + 1, _⟩ => 0

/-- A product over the six windows, written out. -/
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

/-- To own a whole buffer at some contents is to hold it at them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's one block is its whole array. -/
theorem index_zero : ∀ (w : Fin cfg0.W) (a : Fin (cfg0.win w).shape.rank), (cfg0.win w).index t0_0 a = 0 := by
  intro w a; fin_cases w <;> rfl
/-- The call has one point, so a window's rectangle begins at zero. -/
theorem rect_at (w : Fin cfg0.W) (y : ((cfg0.win w).xblock (cfg0.grid.coords t0_0)).Idx) (a : Fin (cfg0.win w).shape.rank) :
    (((cfg0.win w).rect t0_0).emb y a : ℕ) = (y a : ℕ) :=
  Window.rect_emb_val_of_index_zero (cfg0.win w) t0_0 a (index_zero w a) y

/-- A staged buffer is its array. -/
theorem before_x (c : Dev nD) (d) : (dats m ρ 0 c).before (0 : Fin 6) t0_0 d = xOf m c := by
  unfold Dat.before; rw [if_pos (fetch0_0 t0_0)]
  funext y
  show m ((c : Thread nD τ).loc main_arg0) (((cfg0.win (0 : Fin 6)).rect t0_0).emb y) = m ((c : Thread nD τ).loc main_arg0) y
  congr 1; funext a; exact Fin.ext (rect_at (0 : Fin 6) y a)
/-- The query weights' window holds the argument. -/
theorem before_wq (c : Dev nD) (d) : (dats m ρ 0 c).before (1 : Fin 6) t0_0 d = wqOf m c := by
  unfold Dat.before; rw [if_pos (fetch0_1 t0_0)]
  funext y
  show m ((c : Thread nD τ).loc main_arg1) (((cfg0.win (1 : Fin 6)).rect t0_0).emb y) = m ((c : Thread nD τ).loc main_arg1) y
  congr 1; funext a; exact Fin.ext (rect_at (1 : Fin 6) y a)
/-- The keys' window holds the argument. -/
theorem before_k (c : Dev nD) (d) : (dats m ρ 0 c).before (2 : Fin 6) t0_0 d = kOf m c := by
  unfold Dat.before; rw [if_pos (fetch0_2 t0_0)]
  funext y
  show m ((c : Thread nD τ).loc main_arg2) (((cfg0.win (2 : Fin 6)).rect t0_0).emb y) = m ((c : Thread nD τ).loc main_arg2) y
  congr 1; funext a; exact Fin.ext (rect_at (2 : Fin 6) y a)
/-- The values' window holds the argument. -/
theorem before_v (c : Dev nD) (d) : (dats m ρ 0 c).before (3 : Fin 6) t0_0 d = vOf m c := by
  unfold Dat.before; rw [if_pos (fetch0_3 t0_0)]
  funext y
  show m ((c : Thread nD τ).loc main_arg3) (((cfg0.win (3 : Fin 6)).rect t0_0).emb y) = m ((c : Thread nD τ).loc main_arg3) y
  congr 1; funext a; exact Fin.ext (rect_at (3 : Fin 6) y a)
/-- The output weights' window holds the argument. -/
theorem before_wo (c : Dev nD) (d) : (dats m ρ 0 c).before (4 : Fin 6) t0_0 d = woOf m c := by
  unfold Dat.before; rw [if_pos (fetch0_4 t0_0)]
  funext y
  show m ((c : Thread nD τ).loc main_arg4) (((cfg0.win (4 : Fin 6)).rect t0_0).emb y) = m ((c : Thread nD τ).loc main_arg4) y
  congr 1; funext a; exact Fin.ext (rect_at (4 : Fin 6) y a)

/-- The array of the result after the run. -/
theorem final_out (c : Dev nD) : (dats m ρ 0 c).arrAt (5 : Fin 6) cfg0.N = finOf m :=
  (dats m ρ 0 c).arrAt_eq_of_after_last (5 : Fin 6) t0_0 (by decide +kernel) _ fun j => rfl

/-- A staging buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def pointPost (c : Dev nD) : sProp 𝕄 :=
  iprop(Φ₁ c ∗ (dats m ρ 0 c).owesAt () t0_0.succ ∗ stg c cc0_stg0_0 (xOf m c) ∗ stg c cc0_stg1_0 (wqOf m c) ∗ stg c cc0_stg2_0 (kOf m c)
    ∗ stg c cc0_stg3_0 (vOf m c) ∗ stg c cc0_stg4_0 (woOf m c) ∗ stg c cc0_stg5_0 (finOf m))

set_option maxRecDepth 4000 in
/-- The body at the call's one point. -/
theorem sound_point (c : Dev nD) : pointPre m ρ c ⊢ Wp c prog (pointPost m ρ c) := by
  unfold pointPre Φ₀ start Dat.owesAt Pipeline.owesWithin
  rw [show (dats m ρ 0 c).owed t0_0.castSucc = O₀ c from rfl]
  iintro ⟨⟨⟨⟨%K, Hg⟩, Hc, Hl⟩, Hs⟩, ⟨%W, %hW, HO⟩, ⟨%d0, %g0, %h0, Hx⟩, ⟨%d1, %g1, %h1, Hwq⟩, ⟨%d2, %g2, %h2, Hk⟩, ⟨%d3, %g3, %h3, Hv⟩, ⟨%d4, %g4, %h4, Hwo⟩, ⟨%d5, %g5, %h5, Ho⟩⟩
  rw [before_x] at h0; rw [before_wq] at h1; rw [before_k] at h2; rw [before_v] at h3; rw [before_wo] at h4
  subst h0 h1 h2 h3 h4
  unfold Wp
  iapply (wp_wand_r frame (wpE (defs₀ (F := F)) 𝒱₀ (c : Thread nD τ) none) Set.univ)
  isplitl
  · iapply (sound_prog m K c)
    unfold bodyPre inputs owesX
    isplitl [Hg]; · iexact Hg
    isplitl [Hc]; · iexact Hc
    isplitl [Hl]; · iexact Hl
    isplitl [Hs]; · iexact Hs
    isplitl [HO]; · iexists W; iexact HO
    isplitl [Hx Hwq Hk Hv Hwo]
    · isplitl [Hx]; · iexact Hx
      isplitl [Hwq]; · iexact Hwq
      isplitl [Hk]; · iexact Hk
      isplitl [Hv]; · iexact Hv
      iexact Hwo
    iexists _; iexact Ho
  iintro %u H
  unfold bodyPost inputs owesX pointPost Φ₁ Dat.owesAt Pipeline.owesWithin
  rw [show (dats m ρ 0 c).owed t0_0.succ = 0 from rfl]
  icases H with ⟨Hs, Hz, ⟨%W', HO⟩, ⟨Hx, Hwq, Hk, Hv, Hwo⟩, Ho⟩
  isplitl [Hs Hz]
  · isplitl [Hs]; · iexact Hs
    iexact Hz
  isplitl [HO]
  · iexists W'; isplitr
    · ipureintro; exact fun _ _ => Or.inl trivial
    iexact HO
  isplitl [Hx]; · iexists _; isplitr; (ipureintro; rfl); iexact Hx
  isplitl [Hwq]; · iexists _; isplitr; (ipureintro; rfl); iexact Hwq
  isplitl [Hk]; · iexists _; isplitr; (ipureintro; rfl); iexact Hk
  isplitl [Hv]; · iexists _; isplitr; (ipureintro; rfl); iexact Hv
  isplitl [Hwo]; · iexists _; isplitr; (ipureintro; rfl); iexact Hwo
  iexists _; isplitr; (ipureintro; rfl); iexact Ho

set_option maxRecDepth 100000 in
/-- The call's one point. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show pointPre m ρ c ⊢ wp frame (wpE (defs₀ (F := F)) 𝒱₀ c none) Set.univ
    (cc0__body xB (Memref.isWhole_whole _) wqB (Memref.isWhole_whole _) kB (Memref.isWhole_whole _) vB (Memref.isWhole_whole _)
      woB (Memref.isWhole_whole _) oB (Memref.isWhole_whole _) qB (Memref.isWhole_whole _) cB (Memref.isWhole_whole _)
      yB (Memref.isWhole_whole _) aB (Memref.isWhole_whole _) cc0_scratch4 cc0_scratch5 cc0_scratch6 cc0_scratch7) (fun _ => pointPost m ρ c)
  rw [body_eq]
  exact sound_point m ρ c

end Cert.KernelIdeal.Mesh

end
-- ==== Proof.Ideal.Ghost.lean ====
module

public import proofs.«01_k».proof.Proof.Ideal.Launch
public import Idealize.SL.ProofMode.BigOp

@[expose] public section

set_option synthInstance.maxSize 4096

/-! The ghost state dealt to the devices: every cell's invariant opened for all, each token carried to the device
that pays with it, and the credit that the launch promises. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores. -/
abbrev osem : Fin 4 × Fin 32 → SemLoc sig := fun kd => .dma (dsem kd.1 kd.2)

set_option maxRecDepth 100000 in
/-- The call's own semaphores are the four arrays of the exchange. -/
theorem ownSemFacts : Pipeline.OwnSemFacts cfg0.spec osem := by decide +kernel

/-- Every window of the call is held in full. -/
theorem share_eq (c : Dev nD) (w : Fin cfg0.W) : (dats m ρ 0 c).share w = fullShare := by unfold Dat.share; split <;> rfl

/-- A product over the cells is the barrier's factor and the copies'. -/
theorem bigSep_cells {M : Type} [URA M] (Φ : Cell → sProp M) :
    bigSep Finset.univ Φ = iprop(Φ none ∗ bigSep Finset.univ fun kd => Φ (some kd)) := by
  rw [show (Finset.univ : Finset Cell) = insert none (Finset.univ.map ⟨some, Option.some_injective _⟩) from by
      ext x; cases x <;> simp, bigSep_insert (by simp), bigSep_map]
  rfl

/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barSem] (by decide +kernel) (by decide +kernel)]; rfl

/-- The call's semaphores and the barrier's, at zero, are the cells of the protocol at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (cell c x) 0 : sProp 𝕄) := by
  rw [unscopedSems0_eq, bigSep_cells]
  unfold Pipeline.ownSems0
  iintro ⟨H, HB⟩
  isplitl [HB]; · iexact HB
  iexact H

/-! ## What is minted -/

abbrev cellAt (cx : Dev nD × Cell) : GSem nD τ sig := cell cx.1 cx.2
/-- Different devices or codes name different cells. -/
theorem cellAt_injective : Function.Injective (cellAt : Dev nD × Cell → GSem nD τ sig) := fun a b h =>
  Prod.ext (cell_inj h).1 (cell_inj h).2
def meshCells : Finset (GSem nD τ sig) := Finset.univ.map ⟨cellAt, cellAt_injective⟩

/-- The tokens of a device's own cells: one per partner on the barrier, one on each copy's semaphore. -/
abbrev tokOf (x : Dev nD × Option (Fin 4) × Fin 32) : GSem nD τ sig × ℕ × Fin 32 := match x.2.1 with
  | none => (barCell x.1, 0, x.2.2)
  | some k => (dCell x.1 k x.2.2, 0, 0)
/-- Different payments have different tokens. -/
theorem tokOf_injective : Function.Injective (tokOf : Dev nD × Option (Fin 4) × Fin 32 → GSem nD τ sig × ℕ × Fin 32) := by
  rintro ⟨c, k, d⟩ ⟨c', k', d'⟩ h
  cases k with
  | none =>
    cases k' with
    | none =>
      have e := cell_inj (x := none) (x' := none) (congrArg Prod.fst h)
      have e' : d = d' := congrArg (fun x : GSem nD τ sig × ℕ × Fin 32 => x.2.2) h
      exact Prod.ext e.1 (Prod.ext rfl e')
    | some k' => exact absurd (cell_inj (x := none) (x' := some (k', d')) (congrArg Prod.fst h)).2 (by simp)
  | some k =>
    cases k' with
    | none => exact absurd (cell_inj (x := some (k, d)) (x' := none) (congrArg Prod.fst h)).2 (by simp)
    | some k' =>
      have e := cell_inj (x := some (k, d)) (x' := some (k', d')) (congrArg Prod.fst h)
      have e' := Option.some.inj e.2
      exact Prod.ext e.1 (congrArg (fun x : Fin 4 × Fin 32 => (some x.1, x.2)) e')
def meshToks : Finset (GSem nD τ sig × ℕ × Fin 32) := Finset.univ.map ⟨tokOf, tokOf_injective⟩

def u₀ : UU :=
  (initOf (Pipeline.cells cfgs cellOf_inj) (Pipeline.launchToks cfgs cellOf_inj), initOf meshCells meshToks)

/-- The tokens of device `c`'s own cells at shift `d`. -/
def toks (c : Dev nD) (d : Fin 32) : sProp 𝕄 :=
  iprop(dutyTok ER (barCell c) 0 d ∗ dutyTok ER (dCell c 0 d) 0 0 ∗ dutyTok ER (dCell c 1 d) 0 0 ∗ dutyTok ER (dCell c 2 d) 0 0
    ∗ dutyTok ER (dCell c 3 d) 0 0)

/-- What is dealt to device `c` first, -/
def G (c : Dev nD) : sProp 𝕄 :=
  iprop((bigSep Finset.univ fun x : Cell => roundState ER (sched m) (cell c x) 0)
    ∗ (bigSep Finset.univ fun x : Cell => iprop(atPos ER (cell c x) 0 ∅ 0 ∗ reached ER (cell c x) 0))
    ∗ bigSep Finset.univ fun d => toks c d)

/-- and what it holds once all have been dealt theirs. -/
def G' (c : Dev nD) : sProp 𝕄 := iprop(∃ K, ghost m K c)

/-- A product over the five kinds of payment, written out. -/
theorem bigSep_kinds {M : Type} [URA M] (Φ : Option (Fin 4) → sProp M) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- The tokens of all payments, dealt by payee and shift. -/
theorem deal_toks : bigSep meshToks (fun x => (dutyTok ER x.1 x.2.1 x.2.2 : sProp 𝕄))
    = bigSep Finset.univ fun c : Dev nD => bigSep Finset.univ fun d => toks c d := by
  unfold meshToks; rw [bigSep_map, bigSep_univ_prod]
  refine bigSep_congr fun c _ => ?_
  rw [bigSep_univ_prod, bigSep_kinds]
  unfold toks
  simp only [bigSep_sep']
  rfl

/-- The cells of all devices, dealt by device. -/
theorem deal_cells (Φ : GSem nD τ sig → sProp 𝕄) :
    bigSep meshCells Φ = bigSep Finset.univ fun c : Dev nD => bigSep Finset.univ fun x : Cell => Φ (cell c x) := by
  unfold meshCells; rw [bigSep_map, bigSep_univ_prod]; rfl

/-- The protocol's ghost state pays for every device's part. -/
theorem fund_mesh : BI.own (ER (initOf meshCells meshToks)) ⊢ (|==> bigSep Finset.univ (G m) : sProp 𝕄) := by
  iintro HX
  imod (Rounds.fund ER (sched m) meshCells meshToks) $$ HX with ⟨Hst, Hr, Hat, Htok⟩
  imodintro
  ihave Hst' := (Entails.of_eq (deal_cells fun g => roundState ER (sched m) g 0)) $$ Hst
  ihave Hat' := (Entails.of_eq (deal_cells fun g => atPos ER g 0 ∅ 0)) $$ Hat
  ihave Hr' := (Entails.of_eq (deal_cells fun g => reached ER g 0)) $$ Hr
  ihave Htok' := (Entails.of_eq deal_toks) $$ Htok
  unfold G; simp only [bigSep_sep']
  isplitl [Hst']; · iexact Hst'
  isplitl [Hat' Hr']
  · isplitl [Hat'] <;> iassumption
  iexact Htok'

/-! ## From what is dealt to what each device starts with -/

/-- A device's semaphores at zero and its part of the ghost state open the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (sched m) κ (cell c x)))
          ∗ (bigSep Finset.univ fun x : Cell => iprop(atPos ER (cell c x) 0 ∅ 0 ∗ reached ER (cell c x) 0)) ∗ bigSep Finset.univ fun d => toks c d) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (cell c x) 0) ∗ bigSep Finset.univ fun x : Cell => roundState ER (sched m) (cell c x) 0)
      ⊢ (|={Set.univ}=> bigSep Finset.univ fun x : Cell => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- The exchange of a device and a shift for its partner there and the same shift. -/
def across : Dev nD × Fin 32 ≃ Dev nD × Fin 32 where
  toFun x := (peer x.1 x.2, x.2)
  invFun x := (peer x.1 x.2, x.2)
  left_inv x := Prod.ext (peer_peer x.1 x.2) rfl
  right_inv x := Prod.ext (peer_peer x.1 x.2) rfl

/-- A product over devices and shifts may be read at the partners. -/
theorem carry (Φ : Dev nD → Fin 32 → sProp 𝕄) :
    (bigSep Finset.univ fun c : Dev nD => bigSep Finset.univ fun d : Fin 32 => Φ c d)
      = bigSep Finset.univ fun c : Dev nD => bigSep Finset.univ fun d : Fin 32 => Φ (peer c d) d := by
  rw [← bigSep_univ_prod (fun x : Dev nD × Fin 32 => Φ x.1 x.2), bigSep_univ_equiv across, bigSep_univ_prod]; rfl

/-- Each token carried to its payer. -/
theorem toks_across : (bigSep Finset.univ fun c : Dev nD => bigSep Finset.univ fun d => (toks c d : sProp 𝕄))
    ⊢ bigSep Finset.univ fun c : Dev nD => bigSep Finset.univ fun d => toksAt c d := by
  unfold toks toksAt
  simp only [bigSep_sep']
  rw [carry (fun c d => dutyTok ER (barCell c) 0 d), carry (fun c d => dutyTok ER (dCell c 1 d) 0 0), carry (fun c d => dutyTok ER (dCell c 3 d) 0 0)]
  iintro ⟨HB, H0, H1, H2, H3⟩
  isplitl [HB]; · iexact HB
  isplitl [H1]; · iexact H1
  isplitl [H3]; · iexact H3
  isplitl [H0]; · iexact H0
  iexact H2

/-- What a device needs of the protocol, from the records of all cells, its positions and its tokens. -/
theorem ghost_intro (K : Dev nD × Cell → ℕ) (c : Dev nD) :
    iprop(records m K ∗ (bigSep Finset.univ fun x : Cell => atPos ER (cell c x) 0 ∅ 0) ∗ bigSep Finset.univ fun d => toksAt c d) ⊢ G' m c := by
  rw [bigSep_cells]
  unfold G' ghost
  iintro ⟨HR, ⟨HB, Hat⟩, Ht⟩
  iexists K
  isplitl [HR]; · iexact HR
  isplitl [HB]; · iexact HB
  isplitl [Hat]; · iexact Hat
  iexact Ht

/-- All the invariants are shared, and every token goes to the device that pays it. -/
theorem regroup :
    (bigSep Finset.univ fun c : Dev nD => iprop((bigSep Finset.univ fun x : Cell => iprop(∃ κ : ℕ, cellInv ER (sched m) κ (cell c x)))
          ∗ (bigSep Finset.univ fun x : Cell => iprop(atPos ER (cell c x) 0 ∅ 0 ∗ reached ER (cell c x) 0)) ∗ bigSep Finset.univ fun d => toks c d) : sProp 𝕄)
      ⊢ bigSep Finset.univ (G' m) := by
  rw [bigSep_sep', bigSep_sep', ← bigSep_univ_prod (fun cx : Dev nD × Cell => iprop(∃ κ : ℕ, cellInv ER (sched m) κ (cell cx.1 cx.2))),
    bigSep_congr (s := Finset.univ) (fun (c : Dev nD) _ => bigSep_sep' Finset.univ (fun x : Cell => (atPos ER (cell c x) 0 ∅ 0 : sProp 𝕄)) (fun x => reached ER (cell c x) 0)),
    bigSep_sep', ← bigSep_univ_prod (fun cx : Dev nD × Cell => (reached ER (cell cx.1 cx.2) 0 : sProp 𝕄))]
  iintro ⟨HI, ⟨Hat, #HR⟩, Htok⟩
  ihave HK := (BI.bigSep_exists_pi Finset.univ (fun (cx : Dev nD × Cell) (κ : ℕ) => (cellInv ER (sched m) κ (cell cx.1 cx.2) : sProp 𝕄))) $$ HI
  icases HK with ⟨%K, #HI⟩
  ihave Htk := (toks_across (F := F)) $$ Htok
  iapply (bigSep_with_persistent (R := records m K) fun c _ => ghost_intro m K c)
  isplitr
  · unfold records
    rw [bigSep_sep']
    isplitl; · iexact HI
    iexact HR
  · rw [bigSep_sep']
    isplitl [Hat]; · iexact Hat
    iexact Htk

/-- All the devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

/-- What is owed along a list at a cell is the sum over the list. -/
theorem owL_apply (t : Fin 32 → CellTallies nD τ sig Unit) (rest : CellTallies nD τ sig Unit) (g : GSem nD τ sig) (u : Unit) :
    ∀ l : List (Fin 32), l.Nodup → owL t rest l g u = (∑ d ∈ l.toFinset, t d g u) + rest g u
  | [], _ => by unfold owL; simp
  | d :: l, h => by
    unfold owL
    rw [Pi.add_apply, Finsupp.add_apply, owL_apply t rest g u l (List.nodup_cons.mp h).2, List.toFinset_cons,
      Finset.sum_insert fun hm => (List.nodup_cons.mp h).1 (List.mem_toFinset.mp hm)]
    omega

/-- What device `e` owes on a cell of device `c`. -/
theorem tally_cell (p c : Dev nD) (x y : Cell) (n : ℕ) : tallyAt (cell p x) () n (cell c y) () = if p = c ∧ x = y then n else 0 := by
  rw [tallyAt_apply]
  by_cases h : p = c ∧ x = y
  · rw [if_pos h, if_pos ⟨by rw [h.1, h.2], rfl⟩]
  · rw [if_neg h, if_neg fun h' => h ⟨(cell_inj h'.1).1.symm, (cell_inj h'.1).2.symm⟩]

/-- What device `e` owes at the start to a cell of device `c`. -/
theorem O₀_apply (e c : Dev nD) (y : Cell) : O₀ e (cell c y) ()
    = (∑ d ∈ offs, if peer e d = c ∧ none = y then 1 else 0) + ((∑ d ∈ offs, if peer e d = c ∧ some (1, d) = y then N else 0)
      + (∑ d ∈ offs, if peer e d = c ∧ some (3, d) = y then N else 0)) := by
  unfold O₀ O₁ O₂
  rw [owL_apply _ _ _ _ _ shifts_nodup, owL_apply _ _ _ _ _ shifts_nodup, owL_apply _ _ _ _ _ shifts_nodup, shifts_toFinset]
  have hB (d : Fin 32) : tBar e d (cell c y) () = if peer e d = c ∧ none = y then 1 else 0 := tally_cell _ c none y 1
  have h1 (d : Fin 32) : tOne e d (cell c y) () = if peer e d = c ∧ some (1, d) = y then N else 0 := tally_cell _ c (some (1, d)) y N
  have h3 (d : Fin 32) : tTwo e d (cell c y) () = if peer e d = c ∧ some (3, d) = y then N else 0 := tally_cell _ c (some (3, d)) y N
  simp only [hB, h1, h3, Pi.zero_apply, Finsupp.zero_apply, Nat.add_zero]

/-- Partners are partners of each other. -/
theorem peer_eq_iff (e c : Dev nD) (d : Fin 32) : peer e d = c ↔ e = peer c d :=
  ⟨fun h => by rw [← h, peer_peer], fun h => by rw [h, peer_peer]⟩

/-- A sum over the devices and the shifts in which one device counts per shift. -/
theorem sum_owed (c : Dev nD) (P : Fin 32 → Prop) [DecidablePred P] (n : ℕ) :
    (∑ e : Dev nD, ∑ d ∈ offs, if peer e d = c ∧ P d then n else 0) = ∑ d ∈ offs, if P d then n else 0 := by
  rw [Finset.sum_comm]
  refine Finset.sum_congr rfl fun d _ => ?_
  by_cases h : P d
  · simp only [h, and_true, if_true, peer_eq_iff]
    rw [Finset.sum_ite_eq' Finset.univ (peer c d) fun _ => n, if_pos (Finset.mem_univ _)]
  · simp [h]

/-- What all the devices together owe a cell. -/
theorem launch_cell (c : Dev nD) (y : Cell) : launchCredit (Pipeline.owing O₀) 0 (cell c y) ()
    = (∑ d ∈ offs, if none = y then 1 else 0) + ((∑ d ∈ offs, if some (1, d) = y then N else 0) + (∑ d ∈ offs, if some (3, d) = y then N else 0)) := by
  rw [Pipeline.launchCredit_owing, Finset.sum_congr rfl fun e _ => O₀_apply e c y, Finset.sum_add_distrib, Finset.sum_add_distrib,
    sum_owed c (fun _ => none = y), sum_owed c (fun d => some (1, d) = y), sum_owed c (fun d => some (3, d) = y)]

/-- The barrier of a device is owed one unit from each of its 31 partners. -/
theorem launch_bar (c : Dev nD) : launchCredit (Pipeline.owing O₀) 0 (cell c none) () = 31 := by
  rw [launch_cell]; simp

/-- A receive cell is owed one block. -/
theorem launch_dma (c : Dev nD) (k : Fin 4) (hk : k = 1 ∨ k = 3) {d : Fin 32} (hd : d ≠ 0) :
    launchCredit (Pipeline.owing O₀) 0 (cell c (some (k, d))) () = N := by
  rw [launch_cell]
  rcases hk with rfl | rfl <;> simp [Finset.sum_ite_eq', hd]

/-- The credit of a cell, given the amount owed it. -/
theorem tallyOn_at (g : GSem nD τ sig) (n : ℕ) (h : launchCredit (Pipeline.owing O₀) 0 g () = n) :
    tallyOn g (launchCredit (Pipeline.owing O₀) 0 g) = (tallyAt g () n : CellTallies nD τ sig Unit) := by
  unfold tallyAt; refine congrArg _ (Finsupp.ext fun u => ?_); cases u
  rw [h, Finsupp.single_eq_same]

/-- Different codes name different semaphores. -/
theorem csem_injective : Function.Injective csem := fun x y h => Option.some.inj (by rw [← code_csem x, ← code_csem y, h])

/-- The launch's credit holds that of every cell of the device. -/
theorem launch_cells (c : Dev nD) : (Pipeline.launchCred O₀ c : sProp 𝕄)
    ⊢ bigSep Finset.univ fun x : Cell => cred (tallyOn (cell c x) (launchCredit (Pipeline.owing O₀) 0 (cell c x))) := by
  unfold Pipeline.launchCred
  refine (bigSep_subset (Finset.subset_univ (Finset.univ.map ⟨csem, csem_injective⟩))).trans ?_
  exact Entails.of_eq (bigSep_map _)

/-- The launch's credit on a receive array is a block for each shift. -/
theorem creds_list (c : Dev nD) (k : Fin 4) (hk : k = 1 ∨ k = 3) :
    sepL (fun d => (cred (tallyOn (cell c (some (k, d))) (launchCredit (Pipeline.owing O₀) 0 (cell c (some (k, d))))) : sProp 𝕄)) shifts
      ⊢ sepL (fun d => cred (tallyAt (dCell c k d) () N)) shifts :=
  sepL_mono fun d hd => Entails.of_eq (congrArg cred (tallyOn_at (cell c (some (k, d))) N
    (launch_dma c k hk fun h => by subst h; revert hd; decide)))

/-- The launch's credit is what the protocol asks. -/
theorem creds_intro (c : Dev nD) : (Pipeline.launchCred O₀ c : sProp 𝕄) ⊢ creds c := by
  unfold creds
  iintro H
  ihave H := (launch_cells (F := F) c) $$ H
  ihave ⟨HB, H⟩ := (Entails.of_eq (bigSep_cells _)) $$ H
  ihave ⟨-, ⟨-, H1⟩, -, ⟨-, H3⟩⟩ := (Entails.of_eq (bigSep_arrays _)) $$ H
  isplitl [HB]
  · iapply (Entails.of_eq (congrArg cred (tallyOn_at (cell c none) 31 (launch_bar c)))); iexact HB
  isplitl [H1]
  · iapply (creds_list (F := F) c 1 (Or.inl rfl)); iexact H1
  · iapply (creds_list (F := F) c 3 (Or.inr rfl)); iexact H3

end Cert.KernelIdeal.Mesh

end
-- ==== Proof.Ideal.Run.lean ====
module

public import proofs.«01_k».proof.Proof.Ideal.Ghost
public import Idealize.ShloMosaic.Lib.Pipeline.CollectiveSegs

@[expose] public section

set_option synthInstance.maxSize 4096

/-! The run of the program on all devices. -/

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What the launch gives a device is what its call starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- The call's start and the scratch buffers give the body's precondition. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The body's end gives back the scratch buffers and every semaphore at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ zeros scratch Pipeline.ownSems0
  iintro ⟨Hr, HB, Hz⟩
  isplitl [HB]; · iexact HB
  isplitl [Hz]; · iexact Hz
  iexact Hr

/-- The staging semaphores are at the lowest level. -/
theorem code_stage : ∀ (w : Fin cfg0.W) (s : Fin (cfg0.win w).nbuf), lvOf (code (.dma ((cfg0.win w).sem s))) ≤ 0 := by decide +kernel

/-- The staging copies may be waited for. -/
theorem stage_waits (c : Dev nD) : (levAts L lv : sProp 𝕄) ⊢ Pipeline.cellsWaits cfgs (dats m ρ) () 0 c :=
  Pipeline.cellsWaits_intro cfgs (dats m ρ) () 0 c fun w s t =>
    mayWait_above c _ 0 _ (code_stage w s) (by
      rcases t with ⟨_ | _, ht⟩
      · exact above_O₀ c shifts
      · exact above_zero 0)

/-- The array of each window after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair run of the 32 devices ends, with each array at the contents
computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What a run ends with, named: the sum on every device, the arguments as they were. -/
def Post (r : PUnit × MemSt nD τ sig (Elt F)) : Prop :=
  (∀ c : Dev nD, r.2.mem ((c : Thread nD τ).loc main_v1) = finOf m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

/-- Every run ends with the result on every device, the arguments unchanged and every counter at zero. -/
theorem run_post : θ_run defs (onTc (τ := τ) (main (F := F))) ⟨m, fun _ => 0, ρ⟩ (Post m) :=
  (θ_run defs _ _).mono (fun _ h => ⟨fun c =>
    ⟨(h.1 c (5 : Fin 6)).trans (final_out m ρ c),
      (h.1 c (0 : Fin 6)).trans ((dats m ρ 0 c).arrAt_in (0 : Fin 6) rfl _),
      (h.1 c (1 : Fin 6)).trans ((dats m ρ 0 c).arrAt_in (1 : Fin 6) rfl _),
      (h.1 c (2 : Fin 6)).trans ((dats m ρ 0 c).arrAt_in (2 : Fin 6) rfl _),
      (h.1 c (3 : Fin 6)).trans ((dats m ρ 0 c).arrAt_in (3 : Fin 6) rfl _),
      (h.1 c (4 : Fin 6)).trans ((dats m ρ 0 c).arrAt_in (4 : Fin 6) rfl _)⟩, h.2⟩) (run_main m ρ)

end Cert.KernelIdeal.Mesh

end
-- ==== Proof.Value.Spec.lean ====
module

public import Idealize.ShloMosaic.Lib.Pointwise

@[expose] public section

noncomputable section

namespace Cert.Value
open Idealize.ShloMosaic

/-- A real of the ideal model. -/
abbrev R : Type := Ideal .f32

/-- The softmax of a row of scores, its maximum taken out first. -/
def soft (s : Fin 128 → R) (j : Fin 128) : R :=
  Ideal.div (Ideal.exp (s j - Finset.univ.fold max (Ideal.ofBits FTy.f32 4286578688#32) s))
    (∑ j', Ideal.exp (s j' - Finset.univ.fold max (Ideal.ofBits FTy.f32 4286578688#32) s))

/-- One row of scaled scores. -/
def score (q : Fin 64 → R) (k : Fin 128 → Fin 64 → R) (j : Fin 128) : R :=
  (∑ d, q d * k j d) * Ideal.ofBits FTy.f32 1040187392#32

/-- One row of attention: the values weighted by the softmax of the scores. -/
def attend (q : Fin 64 → R) (k v : Fin 128 → Fin 64 → R) (n : Fin 64) : R := ∑ j, soft (score q k) j * v j n

end Cert.Value
end
-- ==== Proof.Value.Pay.lean ====
module

public import proofs.«01_k».proof.Proof.Ideal.Contents
public import proofs.«01_k».proof.Proof.Value.Spec

@[expose] public section

noncomputable section

namespace Cert.Value
open Idealize.ShloMosaic Idealize.SL.Sem Idealize.ShloMosaic.TcCoe Cert.KernelIdeal Cert.KernelIdeal.Gen Cert.KernelIdeal.Mesh

/-- The query projection at row `r` and column `n`. -/
theorem proj_at (x : Vec Ideal S2x128x512 .bf16) (w : Vec Ideal S512x256 .bf16) (r : Fin 256) (n : Fin 256) :
    k0_pay1 x w (ix2 r n) = ∑ k : Fin 512, x (ix3 ⟨r.val / 128, by omega⟩ ⟨r.val % 128, by omega⟩ k) * w (ix2 k n) := by
  pointwise [k0_pay1]

/-- One head's context at query row `r` and lane `n`. -/
theorem head_at (q : Vec Ideal S128x64 .bf16) (k v : Vec Ideal S1x128x1x64 .bf16) (r : Fin 128) (n : Fin 64) :
    k0_pay5 q k v (ix2 r n) = attend (fun d => q (ix2 r d)) (fun j d => k (ix4 0 j 0 d)) (fun j d => v (ix4 0 j 0 d)) n := by
  pointwise [k0_pay5]
  rfl

/-- The partial product at row `r` and column `n`. -/
theorem prod_at (o : Vec Ideal S256x256 .bf16) (w : Vec Ideal S256x512 .bf16) (r : Fin 256) (n : Fin 512) :
    k0_pay17 o w (ix2 r n) = ∑ k : Fin 256, o (ix2 r k) * w (ix2 k n) := by
  pointwise [k0_pay17]

/-- The sum over the slots. -/
theorem tot_at (a : Vec Ideal S32x8x512 .f32) (r : Fin 8) (n : Fin 512) :
    k0_pay19 a (ix2 r n) = ∑ d : Fin 32, a (ix3 d r n) := by
  pointwise [k0_pay19]

end Cert.Value
end
-- ==== Proof.Value.Ref.lean ====
module

public import proofs.«01_k».proof.Proof.Gen.ReferenceIdeal.Run
public import proofs.«01_k».proof.Proof.Value.Spec

@[expose] public section

noncomputable section

namespace Cert.Value
open Idealize.ShloMosaic Idealize.SL.Sem Idealize.ShloMosaic.TcCoe Cert.ReferenceIdeal Cert.ReferenceIdeal.Gen

/-- The band mask. -/
def maskT : (⟨S128x128, .i1⟩ : BufTy).Contents (Elt Ideal) :=
  cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

/-- No two positions below 128 are more than 128 apart. -/
theorem band_all : ∀ i j : Fin 128, IntOp.cmpi .sle (IntOp.absi (IntOp.subi (BitVec.ofNat 32 i.val) (BitVec.ofNat 32 j.val))) 128#32 = 1#1 := by
  decide +kernel

/-- A disjunction of truths is true. -/
theorem or_all : (Finset.univ : Finset (Fin 128)).fold IntOp.ori 0#1 (fun _ => 1#1) = 1#1 := by decide +kernel

/-- Two positions among 128 are never further than 128 apart. -/
theorem mask_at (i j : Fin 128) : maskT (ix2 i j) = 1#1 := by
  pointwise [maskT]
  exact band_all i j

/-- The queries. -/
def refQ (x : FVec Ideal S2x128x512 .bf16) (w : FVec Ideal S512x8192 .bf16) : FVec Ideal S2x128x128x64 .bf16 :=
  shapeCast S2x128x128x64 (truncf .bf16 (Host.dotGeneral dot_S2x128x512_S512x8192_S2x128x8192_2_0_01_1_n_n none x w : FVec Ideal S2x128x8192 .f32) bitsLt_bf16_f32) shapeCasts_S2x128x8192_S2x128x128x64

/-- The reference's queries at an index. -/
theorem refQ_at (x : FVec Ideal S2x128x512 .bf16) (w : FVec Ideal S512x8192 .bf16) (b : Fin 2) (i h : Fin 128) (d : Fin 64) :
    refQ x w (ix4 b i h d) = ∑ k : Fin 512, x (ix3 b i k) * w (ix2 k ⟨h.val * 64 + d.val, by omega⟩) := by
  pointwise [refQ]

/-- The scaled scores. -/
def refS (q : FVec Ideal S2x128x128x64 .bf16) (k : FVec Ideal S2x128x128x64 .bf16) : FVec Ideal S2x128x128x128 .f32 :=
  mulf (extf .f32 (truncf .bf16 (Host.dotGeneral dot_S2x128x128x64_S2x128x128x64_S2x128x128x128_3_3_1_1_02_02 none q k : FVec Ideal S2x128x128x128 .f32) bitsLt_bf16_f32) bitsLt_bf16_f32)
    (broadcastInDim S2x128x128x128 ![] bcast_S_S2x128x128x128 (constant S_ .f32 0x3E000000#32))

/-- The reference's scores are scaled products of a query and a key. -/
theorem refS_at (q k : FVec Ideal S2x128x128x64 .bf16) (b : Fin 2) (h i j : Fin 128) :
    refS q k (ix4 b h i j) = score (fun d => q (ix4 b i h d)) (fun j d => k (ix4 b j h d)) j := by
  pointwise [refS]
  rfl

/-- The masked scores. -/
def refM (s : FVec Ideal S2x128x128x128 .f32) : FVec Ideal S2x128x128x128 .f32 :=
  select (broadcastInDim S2x128x128x128 ![0, 1, 2, 3] bcast_S1x1x128x128_S2x128x128x128_0_1_2_3 (broadcastInDim S1x1x128x128 ![2, 3] bcast_S128x128_S1x1x128x128_2_3 maskT)) s
    (broadcastInDim S2x128x128x128 ![] bcast_S_S2x128x128x128 (constant S_ .f32 0xCE6E6B28#32))

/-- The mask keeps every score. -/
theorem refM_at (s : FVec Ideal S2x128x128x128 .f32) (b : Fin 2) (h i j : Fin 128) : refM s (ix4 b h i j) = s (ix4 b h i j) := by
  pointwise [refM]
  rw [mask_at]
  rfl

/-- The exponentials. -/
def refE (s : FVec Ideal S2x128x128x128 .f32) : FVec Ideal S2x128x128x128 .f32 :=
  Host.exp (subf s (broadcastInDim S2x128x128x128 ![0, 1, 2, 3] bcast_S2x128x128x1_S2x128x128x128_0_1_2_3
    (broadcastInDim S2x128x128x1 ![0, 1, 2] bcast_S2x128x128_S2x128x128x1_0_1_2
      (Host.reduce FloatOps.maximumf s (constant S_ .f32 0xFF800000#32) reducesTo_S2x128x128x128_S2x128x128_d3 h_S_))))

/-- The reference's exponentials at an index. -/
theorem refE_at (s : FVec Ideal S2x128x128x128 .f32) (b : Fin 2) (h i j : Fin 128) :
    refE s (ix4 b h i j) =
      Ideal.exp (s (ix4 b h i j) - Finset.univ.fold max (Ideal.ofBits FTy.f32 4286578688#32) (fun j' => s (ix4 b h i j'))) := by
  pointwise [refE]

/-- The rows that attend to anything. -/
def keepT : (⟨S128, .i1⟩ : BufTy).Contents (Elt Ideal) :=
  Host.reduce IntOp.ori maskT (constantI S_ 1 0#1) reducesTo_S128x128_S128_d1 h_S_

/-- Every row attends to something. -/
theorem keep_at (i : Fin 128) : keepT (ix1 i) = 1#1 := by
  pointwise [keepT]
  simp only [mask_at]
  exact or_all

/-- The weights. -/
def refW (e : FVec Ideal S2x128x128x128 .f32) : FVec Ideal S2x128x128x128 .f32 :=
  select (broadcastInDim S2x128x128x128 ![0, 1, 2, 3] bcast_S1x1x128x1_S2x128x128x128_0_1_2_3 (broadcastInDim S1x1x128x1 ![2] bcast_S128_S1x1x128x1_2 keepT))
    (Host.divf e (broadcastInDim S2x128x128x128 ![0, 1, 2, 3] bcast_S2x128x128x1_S2x128x128x128_0_1_2_3
      (select (broadcastInDim S2x128x128x1 ![0, 1, 2, 3] bcast_S1x1x128x1_S2x128x128x1_0_1_2_3 (broadcastInDim S1x1x128x1 ![2] bcast_S128_S1x1x128x1_2 keepT))
        (broadcastInDim S2x128x128x1 ![0, 1, 2] bcast_S2x128x128_S2x128x128x1_0_1_2 (Host.reduceAdd e (constant S_ .f32 0x00000000#32) reducesTo_S2x128x128x128_S2x128x128_d3 h_S_))
        (broadcastInDim S2x128x128x1 ![] bcast_S_S2x128x128x1 (constant S_ .f32 0x3F800000#32)))))
    (broadcastInDim S2x128x128x128 ![] bcast_S_S2x128x128x128 (constant S_ .f32 0x00000000#32))

/-- The reference's weights at an index: no row is replaced. -/
theorem refW_at (e : FVec Ideal S2x128x128x128 .f32) (b : Fin 2) (h i j : Fin 128) :
    refW e (ix4 b h i j) = Ideal.div (e (ix4 b h i j)) (∑ j', e (ix4 b h i j')) := by
  pointwise [refW]
  rw [keep_at]
  rfl

/-- The context. -/
def refC (v : FVec Ideal S2x128x128x64 .bf16) (w : FVec Ideal S2x128x128x128 .f32) : FVec Ideal S256x8192 .f32 :=
  shapeCast S256x8192 (transpose S2x128x128x64 [0, 3, 1, 2] (Host.dotGeneral dot_S2x128x128x64_S2x128x128x128_S2x128x64x128_1_3_3_2_02_01 none v w : FVec Ideal S2x128x64x128 .f32) transposes_S2x128x64x128_S2x128x128x64_0_3_1_2) shapeCasts_S2x128x128x64_S256x8192

/-- The reference's context at an index. -/
theorem refC_at (v : FVec Ideal S2x128x128x64 .bf16) (w : FVec Ideal S2x128x128x128 .f32) (r : Fin 256) (n : Fin 8192) :
    refC v w (ix2 r n) =
      ∑ j : Fin 128, v (ix4 ⟨r.val / 128, by omega⟩ j ⟨n.val / 64, by omega⟩ ⟨n.val % 64, by omega⟩)
        * w (ix4 ⟨r.val / 128, by omega⟩ ⟨n.val / 64, by omega⟩ ⟨r.val % 128, by omega⟩ j) := by
  pointwise [refC]

/-- The output. -/
def refO (c : FVec Ideal S256x8192 .f32) (wo : FVec Ideal S8192x512 .bf16) : FVec Ideal S256x512 .f32 :=
  Host.dotGeneral dot_S256x8192_S8192x512_S256x512_1_0_0_1_n_n none c wo

/-- The reference's output at an index. -/
theorem refO_at (c : FVec Ideal S256x8192 .f32) (wo : FVec Ideal S8192x512 .bf16) (r : Fin 256) (n : Fin 512) :
    refO c wo (ix2 r n) = ∑ k : Fin 8192, c (ix2 r k) * wo (ix2 k n) := by
  pointwise [refO]

/-- The reference's weights are the softmax of its scores. -/
theorem refW_soft (s : FVec Ideal S2x128x128x128 .f32) (b : Fin 2) (h i j : Fin 128) :
    refW (refE (refM s)) (ix4 b h i j) = soft (fun j' => s (ix4 b h i j')) j := by
  rw [refW_at]
  simp only [refE_at, refM_at]
  rfl

/-- The reference's context at row `r` and column `n`: a row of attention for head `n / 64`. -/
theorem ref_ctx (q k v : FVec Ideal S2x128x128x64 .bf16) (r : Fin 256) (n : Fin 8192) :
    refC v (refW (refE (refM (refS q k)))) (ix2 r n) =
      attend (fun d => q (ix4 ⟨r.val / 128, by omega⟩ ⟨r.val % 128, by omega⟩ ⟨n.val / 64, by omega⟩ d))
        (fun j d => k (ix4 ⟨r.val / 128, by omega⟩ j ⟨n.val / 64, by omega⟩ d))
        (fun j d => v (ix4 ⟨r.val / 128, by omega⟩ j ⟨n.val / 64, by omega⟩ d)) ⟨n.val % 64, by omega⟩ := by
  rw [refC_at]
  refine Finset.sum_congr rfl fun j _ => ?_
  rw [refW_soft, mul_comm]
  simp only [refS_at]

variable (m' : (ℓ : Loc Cert.ReferenceIdeal.nD Cert.ReferenceIdeal.τ Cert.ReferenceIdeal.sig) → Buf (Elt Ideal) ℓ)

set_option maxRecDepth 8192 in
/-- The reference's result is these steps in order. -/
theorem ref_eq (c : Dev nD) : Cert.ReferenceIdeal.Value.res_out0 m' c =
    refO (refC (m' ((c.tc : Thread nD τ).loc main_arg3)) (refW (refE (refM (refS (refQ (m' ((c.tc : Thread nD τ).loc main_arg0)) (m' ((c.tc : Thread nD τ).loc main_arg1)))
      (m' ((c.tc : Thread nD τ).loc main_arg2))))))) (m' ((c.tc : Thread nD τ).loc main_arg4)) := rfl

end Cert.Value
end
-- ==== Proof.Value.Result.lean ====
module

public import proofs.«01_k».proof.Proof.Value.Pay
public import proofs.«01_k».proof.Proof.Value.Ref
public import Idealize.ShloMosaic.Lib.Layout

@[expose] public section

noncomputable section

namespace Cert.Value
open Idealize.ShloMosaic Idealize.SL.Sem Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What each device holds of the reference's arguments. -/
def Args : Prop := ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))

open Cert.KernelIdeal Cert.KernelIdeal.Mesh

/-! ## The reference's arguments -/

abbrev refX : FVec Ideal Cert.ReferenceIdeal.S2x128x512 .bf16 := m' (((0 : Dev Cert.ReferenceIdeal.nD).tc : Thread Cert.ReferenceIdeal.nD Cert.ReferenceIdeal.τ).loc Cert.ReferenceIdeal.main_arg0)
abbrev refWq : FVec Ideal Cert.ReferenceIdeal.S512x8192 .bf16 := m' (((0 : Dev Cert.ReferenceIdeal.nD).tc : Thread Cert.ReferenceIdeal.nD Cert.ReferenceIdeal.τ).loc Cert.ReferenceIdeal.main_arg1)
abbrev refK : FVec Ideal Cert.ReferenceIdeal.S2x128x128x64 .bf16 := m' (((0 : Dev Cert.ReferenceIdeal.nD).tc : Thread Cert.ReferenceIdeal.nD Cert.ReferenceIdeal.τ).loc Cert.ReferenceIdeal.main_arg2)
abbrev refV : FVec Ideal Cert.ReferenceIdeal.S2x128x128x64 .bf16 := m' (((0 : Dev Cert.ReferenceIdeal.nD).tc : Thread Cert.ReferenceIdeal.nD Cert.ReferenceIdeal.τ).loc Cert.ReferenceIdeal.main_arg3)
abbrev refWo : FVec Ideal Cert.ReferenceIdeal.S8192x512 .bf16 := m' (((0 : Dev Cert.ReferenceIdeal.nD).tc : Thread Cert.ReferenceIdeal.nD Cert.ReferenceIdeal.τ).loc Cert.ReferenceIdeal.main_arg4)

/-! ## What device `p` holds of them -/

variable {m m'}

/-- Every device holds the whole of `x`. -/
theorem x_at (h : Args m m') (p : Fin 32) (b : Fin 2) (i : Fin 128) (k : Fin 512) : xOf m p (ix3 b i k) = refX m' (ix3 b i k) :=
  congrFun (h p).1 _

/-- Device `p` holds columns `256 p …` of the query weights. -/
theorem wq_at (h : Args m m') (p : Fin 32) (k : Fin 512) (n : Fin 256) :
    wqOf m p (ix2 k n) = refWq m' (ix2 k ⟨p.val * 256 + n.val, by omega⟩) := by
  refine (congrFun (h p).2.1 _).trans (congrArg (refWq m') (funext fun a => ?_))
  match a with
  | ⟨0, _⟩ => rfl
  | ⟨1, _⟩ => rfl

/-- Device `p` holds heads `4 p …` of the keys. -/
theorem k_at (h : Args m m') (p : Fin 32) (b : Fin 2) (j : Fin 128) (e : Fin 4) (d : Fin 64) :
    kOf m p (ix4 b j e d) = refK m' (ix4 b j ⟨p.val * 4 + e.val, by omega⟩ d) := by
  refine (congrFun (h p).2.2.1 _).trans (congrArg (refK m') (funext fun a => ?_))
  match a with
  | ⟨0, _⟩ => rfl
  | ⟨1, _⟩ => rfl
  | ⟨2, _⟩ => rfl
  | ⟨3, _⟩ => rfl

/-- Device `p` holds heads `4 p …` of the values. -/
theorem v_at (h : Args m m') (p : Fin 32) (b : Fin 2) (j : Fin 128) (e : Fin 4) (d : Fin 64) :
    vOf m p (ix4 b j e d) = refV m' (ix4 b j ⟨p.val * 4 + e.val, by omega⟩ d) := by
  refine (congrFun (h p).2.2.2.1 _).trans (congrArg (refV m') (funext fun a => ?_))
  match a with
  | ⟨0, _⟩ => rfl
  | ⟨1, _⟩ => rfl
  | ⟨2, _⟩ => rfl
  | ⟨3, _⟩ => rfl

/-- Device `p` holds rows `256 p …` of the output weights. -/
theorem wo_at (h : Args m m') (p : Fin 32) (k : Fin 256) (n : Fin 512) :
    woOf m p (ix2 k n) = refWo m' (ix2 ⟨p.val * 256 + k.val, by omega⟩ n) := by
  refine (congrFun (h p).2.2.2.2 _).trans (congrArg (refWo m') (funext fun a => ?_))
  match a with
  | ⟨0, _⟩ => rfl
  | ⟨1, _⟩ => rfl

/-! ## The loads of one pair -/

/-- What pair `(b, e)` loads of the queries. -/
theorem q_read (f : Vec Ideal S256x256 .bf16) (b : Fin 2) (e : Fin 4) (i : Fin 128) (d : Fin 64) :
    qB.view.readAt (Elt Ideal) (hdRect (b, e)).toLoadRect f (ix2 i d)
      = f (ix2 ⟨128 * b.val + i.val, by omega⟩ ⟨64 * e.val + d.val, by omega⟩) := by
  refine congrArg f (funext fun a => ?_)
  match a with
  | ⟨0, _⟩ => exact Fin.ext (by show 128 * b.val + 1 * i.val = 128 * b.val + i.val; omega)
  | ⟨1, _⟩ => exact Fin.ext (by show 64 * e.val + 1 * d.val = 64 * e.val + d.val; omega)

/-- What pair `(b, e)` loads of the keys. -/
theorem k_read (f : Vec Ideal S2x128x4x64 .bf16) (b : Fin 2) (e : Fin 4) (j : Fin 128) (d : Fin 64) :
    kB.view.readAt (Elt Ideal) (kvRect (b, e)).toLoadRect f (ix4 0 j 0 d) = f (ix4 b j e d) := by
  refine congrArg f (funext fun a => ?_)
  match a with
  | ⟨0, _⟩ => exact Fin.ext (by show b.val + 1 * 0 = b.val; omega)
  | ⟨1, _⟩ => exact Fin.ext (by show 0 + 1 * j.val = j.val; omega)
  | ⟨2, _⟩ => exact Fin.ext (by show e.val + 1 * 0 = e.val; omega)
  | ⟨3, _⟩ => exact Fin.ext (by show 0 + 1 * d.val = d.val; omega)

/-- What pair `(b, e)` loads of the values. -/
theorem v_read (f : Vec Ideal S2x128x4x64 .bf16) (b : Fin 2) (e : Fin 4) (j : Fin 128) (d : Fin 64) :
    vB.view.readAt (Elt Ideal) (kvRect (b, e)).toLoadRect f (ix4 0 j 0 d) = f (ix4 b j e d) := k_read f b e j d

/-! ## The two sides -/

/-- Device `p`'s queries are the reference's of its four heads. -/
theorem q_at (h : Args m m') (p : Fin 32) (b : Fin 2) (e : Fin 4) (i : Fin 128) (d : Fin 64) :
    qOf m p (ix2 ⟨128 * b.val + i.val, by omega⟩ ⟨64 * e.val + d.val, by omega⟩)
      = refQ (refX m') (refWq m') (ix4 b i ⟨p.val * 4 + e.val, by omega⟩ d) := by
  rw [refQ_at]
  refine (proj_at _ _ _ _).trans (Finset.sum_congr rfl fun k _ => ?_)
  rw [x_at h, wq_at h]
  have e0 : (128 * b.val + i.val) / 128 = b.val := by omega
  have e1 : (128 * b.val + i.val) % 128 = i.val := by omega
  have e2 : p.val * 256 + (64 * e.val + d.val) = (p.val * 4 + e.val) * 64 + d.val := by omega
  simp only [e0, e1, e2]

/-- Device `p`'s context is the reference's of its 256 columns. -/
theorem ctx_at (h : Args m m') (p : Fin 32) (r : Fin 256) (k : Fin 256) :
    ctxOf m p (ix2 r k) = refC (refV m') (refW (refE (refM (refS (refQ (refX m') (refWq m')) (refK m'))))) (ix2 r ⟨p.val * 256 + k.val, by omega⟩) := by
  rw [ref_ctx]
  refine (head_at _ _ _ _ _).trans ?_
  have e0 : (p.val * 256 + k.val) / 64 = p.val * 4 + k.val / 64 := by omega
  have e1 : (p.val * 256 + k.val) % 64 = k.val % 64 := by omega
  simp only [e0, e1]
  congr 1
  · funext d
    exact (q_read _ _ _ _ _).trans (q_at h p _ _ _ d)
  · funext j d
    exact (k_read _ _ _ _ _).trans (k_at h p _ j _ d)
  · funext j d
    exact (v_read _ _ _ _ _).trans (v_at h p _ j _ d)

/-- The partners of a device are all the devices. -/
def partners (c : Dev nD) : Fin 32 ≃ Fin 32 where
  toFun d := peer c d
  invFun := shiftOf c
  left_inv d := shiftOf_peer c d
  right_inv p := peer_shiftOf c p

/-- The result at row `r` is the sum of all the devices' partial products there. -/
theorem fin_at (r : Fin 256) (n : Fin 512) : finOf m (ix2 r n) = ∑ p : Fin 32, yOf m p (ix2 r n) := by
  refine (tot_at _ _ _).trans ((Finset.sum_congr rfl fun d _ => ?_).trans
    (Equiv.sum_comp (partners ⟨r.val / 8, by show _ < 32; omega⟩) fun p => yOf m p (ix2 r n)))
  refine congrArg (yOf m (peer _ d)) (funext fun a => ?_)
  match a with
  | ⟨0, _⟩ => exact Fin.ext (Nat.div_add_mod r.val 8)
  | ⟨1, _⟩ => rfl

variable (m m')

/-- The kernel's result is the reference's. -/
theorem result (h : Args m m') : finOf (F := Ideal) m = Cert.ReferenceIdeal.Value.res_out0 m' 0 := by
  funext i
  rw [ref_eq]
  obtain ⟨r, n, rfl⟩ : ∃ (r : Fin 256) (n : Fin 512), i = ix2 r n := ⟨i 0, i 1, eq_ix2 i⟩
  rw [refO_at, Fin.sum_univ_tiles 32 256 rfl, fin_at]
  refine Finset.sum_congr rfl fun p _ => (prod_at _ _ _ _).trans (Finset.sum_congr rfl fun k _ => ?_)
  rw [ctx_at h, wo_at h]

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Value.Result
public import Idealize.ShloMosaic.Lib.Quiescent
public import Idealize.ShloMosaic.Adequacy
public import Idealize.ShloMosaic.Init

@[expose] public section

noncomputable section

namespace Cert.Proof

open Idealize.ShloMosaic Idealize.SL.Sem

/-- The kernel at bit patterns runs from any memory, keeps its arguments and leaves every counter at zero. -/
theorem frame_kernel : Cert.quiescent_Kernel := fun m g _ =>
  (θ_run _ _ _).mono (fun _ h => ⟨fun c => (h.1 c).2, h.2⟩) (Cert.Kernel.Mesh.run_post m g)

/-- The same over the reals. -/
theorem frame_ideal : Cert.quiescent_KernelIdeal := fun m g _ =>
  (θ_run _ _ _).mono (fun _ h => ⟨fun c => (h.1 c).2, h.2⟩) (Cert.KernelIdeal.Mesh.run_post m g)

/-- The reference runs from any memory and keeps its arguments; it has no counters. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- Over the reals every device of the kernel ends with the reference's result. -/
theorem value : Cert.algebraic_KernelIdeal_ReferenceIdeal := fun m g m' g' _ hargs =>
  ⟨Cert.ReferenceIdeal.Value.res_out0 m' 0,
    (θ_run _ _ _).mono (fun _ h c => ⟨(h.1 c).1.trans (Cert.Value.result m m' hargs), (h.1 c).2⟩) (Cert.KernelIdeal.Mesh.run_post m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, value⟩

end Cert.Proof

end
